-- ==== Defs.lean ====
def Pre_Kernel [hPre_root_in_rows : Cert.Pre_root_in_rows.Facts] (m : (ℓ : Loc Cert.Kernel.nD Cert.Kernel.τ Cert.Kernel.sig) → Buf (Elt Bits) ℓ) : Prop :=
  ∀ c : Dev Cert.Kernel.nD,
    (Cert.Pre_root_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_root_in_rows : Cert.Pre_root_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_root_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_KernelIdeal_incidence [hPre_incidence : Cert.Pre_incidence.Facts] (m : (ℓ : Loc Cert.KernelIdeal.nD Cert.KernelIdeal.τ Cert.KernelIdeal.sig) → Buf (Elt Ideal) ℓ) : Prop :=
  ∀ c : Dev Cert.KernelIdeal.nD,
    (Cert.Pre_incidence.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_incidence [hPre_incidence : Cert.Pre_incidence.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_incidence.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_root_in_rows : Cert.Pre_root_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_root_in_rows : Cert.Pre_root_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_incidence [hKernelIdeal : Cert.KernelIdeal.Facts] [hPre_incidence : Cert.Pre_incidence.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_incidence m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_incidence [hReferenceIdeal : Cert.ReferenceIdeal.Facts] [hPre_incidence : Cert.Pre_incidence.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_incidence m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_incidence [hKernelIdeal : Cert.KernelIdeal.Facts] [hReferenceIdeal : Cert.ReferenceIdeal.Facts] [hPre_incidence : Cert.Pre_incidence.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_incidence m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v16_1)) (v1 : (c : Dev Cert.KernelIdeal.nD) → Buf (Elt Ideal) ((c.tc : Thread Cert.KernelIdeal.nD Cert.KernelIdeal.τ).loc Cert.KernelIdeal.main_v16_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16_1) = v0 c
          ∧ r.2.mem ((c.tc : Thread Cert.KernelIdeal.nD Cert.KernelIdeal.τ).loc Cert.KernelIdeal.main_v16_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_root_in_rows : Cert.Pre_root_in_rows.Facts) (hPre_incidence : Cert.Pre_incidence.Facts),
    quiescent_Kernel (hKernel := hKernel) (hPre_root_in_rows := hPre_root_in_rows)
    ∧ quiescent_KernelIdeal (hKernelIdeal := hKernelIdeal) (hPre_root_in_rows := hPre_root_in_rows)
    ∧ quiescent_KernelIdeal_pre_incidence (hKernelIdeal := hKernelIdeal) (hPre_incidence := hPre_incidence)
    ∧ quiescent_ReferenceIdeal (hReferenceIdeal := hReferenceIdeal)
    ∧ quiescent_ReferenceIdeal_pre_incidence (hReferenceIdeal := hReferenceIdeal) (hPre_incidence := hPre_incidence)
    ∧ preserves_Kernel_KernelIdeal
    ∧ algebraic_KernelIdeal_ReferenceIdeal_pre_incidence (hKernelIdeal := hKernelIdeal) (hReferenceIdeal := hReferenceIdeal) (hPre_incidence := hPre_incidence)
-- ==== Pre_incidence.lean ====
abbrev S10000x128 : Shape := ⟨2, ![10000, 128]⟩
abbrev S10000x2000 : Shape := ⟨2, ![10000, 2000]⟩
abbrev S2000 : Shape := ⟨1, ![2000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S10000 : Shape := ⟨1, ![10000]⟩

class Facts : Prop where
  bcast_S_S2000 : S_.BroadcastsInDim S2000 (![] : Fin 0 → Fin S2000.rank)
  reducesTo_S2000_S_d0 : S2000.ReducesTo [0] S_
  h_S_ : 0 < S_.numel
  bcast_S_S10000x2000 : S_.BroadcastsInDim S10000x2000 (![] : Fin 0 → Fin S10000x2000.rank)
  reducesTo_S10000x2000_S_d0_1 : S10000x2000.ReducesTo [0, 1] S_
  reducesTo_S10000x2000_S2000_d0 : S10000x2000.ReducesTo [0] S2000
  reducesTo_S10000x2000_S10000_d1 : S10000x2000.ReducesTo [1] S10000
  bcast_S_S10000 : S_.BroadcastsInDim S10000 (![] : Fin 0 → Fin S10000.rank)
  reducesTo_S10000_S_d0 : S10000.ReducesTo [0] S_
  bcast_S_S10000x128 : S_.BroadcastsInDim S10000x128 (![] : Fin 0 → Fin S10000x128.rank)
  reducesTo_S10000x128_S_d0_1 : S10000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S128x1 .f32) (main_arg12 : FVec F S1 .f32) (main_v48 : IVec S_ 1) : IVec S_ 1 :=
  let main_v49 : FVec F S128x1 .f32 := Host.absf main_arg11
  let main_cst_21 : FVec F S_ .f32 := constant S_ .f32 0x7F800000#32
  let main_v50 : FVec F S128x1 .f32 := broadcastInDim S128x1 ![] bcast_S_S128x1 main_cst_21
  let main_v51 : IVec S128x1 1 := cmpf .olt main_v49 main_v50
  let main_c_22 : IVec S_ 1 := constantI S_ 1 1#1
  let main_v52 : IVec S_ 1 := (fun x v => Host.reduce IntOp.andi x v reducesTo_S128x1_S_d0_1 h_S_) main_v51 main_c_22
  let main_v53 : IVec S_ 1 := andi main_v48 main_v52
  let main_v54 : FVec F S1 .f32 := Host.absf main_arg12
  let main_cst_23 : FVec F S_ .f32 := constant S_ .f32 0x7F800000#32
  let main_v55 : FVec F S1 .f32 := broadcastInDim S1 ![] bcast_S_S1 main_cst_23
  let main_v56 : IVec S1 1 := cmpf .olt main_v54 main_v55
  let main_c_24 : IVec S_ 1 := constantI S_ 1 1#1
  let main_v57 : IVec S_ 1 := (fun x v => Host.reduce IntOp.andi x v reducesTo_S1_S_d0 h_S_) main_v56 main_c_24
  let main_v58 : IVec S_ 1 := andi main_v53 main_v57
  main_v58

def fn_part2 {F : FTy → Type} [FloatOps F] (main_arg4 : FVec F S128x128 .f32) (main_arg5 : FVec F S128 .f32) (main_arg8 : FVec F S128 .f32) (main_arg11 : FVec F S128x1 .f32) (main_arg12 : FVec F S1 .f32) (main_v27 : IVec S_ 1) (main_v31 : IVec S_ 1) : IVec S_ 1 :=
  let main_v32 : IVec S_ 1 := andi main_v27 main_v31
  let main_v33 : FVec F S128x128 .f32 := Host.absf main_arg4
  let main_cst_14 : FVec F S_ .f32 := constant S_ .f32 0x7F800000#32
  let main_v34 : FVec F S128x128 .f32 := broadcastInDim S128x128 ![] bcast_S_S128x128 main_cst_14
  let main_v35 : IVec S128x128 1 := cmpf .olt main_v33 main_v34
  let main_c_15 : IVec S_ 1 := constantI S_ 1 1#1
  let main_v36 : IVec S_ 1 := (fun x v => Host.reduce IntOp.andi x v reducesTo_S128x128_S_d0_1 h_S_) main_v35 main_c_15
  let main_v37 : IVec S_ 1 := andi main_v32 main_v36
  let main_v38 : FVec F S128 .f32 := Host.absf main_arg5
  let main_cst_16 : FVec F S_ .f32 := constant S_ .f32 0x7F800000#32
  let main_v39 : FVec F S128 .f32 := broadcastInDim S128 ![] bcast_S_S128 main_cst_16
  let main_v40 : IVec S128 1 := cmpf .olt main_v38 main_v39
  let main_c_17 : IVec S_ 1 := constantI S_ 1 1#1
  let main_v41 : IVec S_ 1 := (fun x v => Host.reduce IntOp.andi x v reducesTo_S128_S_d0 h_S_) main_v40 main_c_17
  let main_v42 : IVec S_ 1 := andi main_v37 main_v41
  let main_cst_18 : FVec F S_ .f32 := constant S_ .f32 0x3727C5AC#32
  let main_v43 : FVec F S128 .f32 := broadcastInDim S128 ![] bcast_S_S128 main_cst_18
  let main_v44 : FVec F S128 .f32 := addf main_arg8 main_v43
  let main_cst_19 : FVec F S_ .f32 := constant S_ .f32 0x00000000#32
  let main_v45 : FVec F S128 .f32 := broadcastInDim S128 ![] bcast_S_S128 main_cst_19
  let main_v46 : IVec S128 1 := cmpf .ogt main_v44 main_v45
  let main_c_20 : IVec S_ 1 := constantI S_ 1 1#1
  let main_v47 : IVec S_ 1 := (fun x v => Host.reduce IntOp.andi x v reducesTo_S128_S_d0 h_S_) main_v46 main_c_20
  let main_v48 : IVec S_ 1 := andi main_v42 main_v47
  fn_part3 (F := F) main_arg11 main_arg12 main_v48

def fn_part1 {F : FTy → Type} [FloatOps F] (main_arg0 : FVec F S10000x128 .f32) (main_arg1 : FVec F S10000x2000 .f32) (main_arg3 : FVec F S128x128 .f32) (main_arg4 : FVec F S128x128 .f32) (main_arg5 : FVec F S128 .f32) (main_arg8 : FVec F S128 .f32) (main_arg11 : FVec F S128x1 .f32) (main_arg12 : FVec F S1 .f32) (main_v12 : IVec S_ 1) (main_v15 : IVec S2000 1) : IVec S_ 1 :=
  let main_c_6 : IVec S_ 1 := constantI S_ 1 1#1
  let main_v16 : IVec S_ 1 := (fun x v => Host.reduce IntOp.andi x v reducesTo_S2000_S_d0 h_S_) main_v15 main_c_6
  let main_v17 : IVec S_ 1 := andi main_v12 main_v16
  let main_cst_7 : FVec F S_ .f32 := constant S_ .f32 0x00000000#32
  let main_v18 : FVec F S10000 .f32 := (fun x v => Host.reduceAdd x v reducesTo_S10000x2000_S10000_d1 h_S_) main_arg1 main_cst_7
  let main_cst_8 : FVec F S_ .f32 := constant S_ .f32 0x00000000#32
  let main_v19 : FVec F S10000 .f32 := broadcastInDim S10000 ![] bcast_S_S10000 main_cst_8
  let main_v20 : IVec S10000 1 := cmpf .ogt main_v18 main_v19
  let main_c_9 : IVec S_ 1 := constantI S_ 1 1#1
  let main_v21 : IVec S_ 1 := (fun x v => Host.reduce IntOp.andi x v reducesTo_S10000_S_d0 h_S_) main_v20 main_c_9
  let main_v22 : IVec S_ 1 := andi main_v17 main_v21
  let main_v23 : FVec F S10000x128 .f32 := Host.absf main_arg0
  let main_cst_10 : FVec F S_ .f32 := constant S_ .f32 0x7F800000#32
  let main_v24 : FVec F S10000x128 .f32 := broadcastInDim S10000x128 ![] bcast_S_S10000x128 main_cst_10
  let main_v25 : IVec S10000x128 1 := cmpf .olt main_v23 main_v24
  let main_c_11 : IVec S_ 1 := constantI S_ 1 1#1
  let main_v26 : IVec S_ 1 := (fun x v => Host.reduce IntOp.andi x v reducesTo_S10000x128_S_d0_1 h_S_) main_v25 main_c_11
  let main_v27 : IVec S_ 1 := andi main_v22 main_v26
  let main_v28 : FVec F S128x128 .f32 := Host.absf main_arg3
  let main_cst_12 : FVec F S_ .f32 := constant S_ .f32 0x7F800000#32
  let main_v29 : FVec F S128x128 .f32 := broadcastInDim S128x128 ![] bcast_S_S128x128 main_cst_12
  let main_v30 : IVec S128x128 1 := cmpf .olt main_v28 main_v29
  let main_c_13 : IVec S_ 1 := constantI S_ 1 1#1
  let main_v31 : IVec S_ 1 := (fun x v => Host.reduce IntOp.andi x v reducesTo_S128x128_S_d0_1 h_S_) main_v30 main_c_13
  fn_part2 (F := F) main_arg4 main_arg5 main_arg8 main_arg11 main_arg12 main_v27 main_v31

def fn {F : FTy → Type} [FloatOps F] (main_arg0 : FVec F S10000x128 .f32) (main_arg1 : FVec F S10000x2000 .f32) (main_arg2 : IVec S2000 32) (main_arg3 : FVec F S128x128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x1 .f32) (main_arg12 : FVec F S1 .f32) : IVec S_ 1 :=
  let main_c : IVec S_ 32 := constantI S_ 32 0#32
  let main_v0 : IVec S2000 32 := broadcastInDim S2000 ![] bcast_S_S2000 main_c
  let main_v1 : IVec S2000 1 := cmpi .sge main_arg2 main_v0
  let main_c_0 : IVec S_ 32 := constantI S_ 32 10000#32
  let main_v2 : IVec S2000 32 := broadcastInDim S2000 ![] bcast_S_S2000 main_c_0
  let main_v3 : IVec S2000 1 := cmpi .slt main_arg2 main_v2
  let main_v4 : IVec S2000 1 := andi main_v1 main_v3
  let main_c_1 : IVec S_ 1 := constantI S_ 1 1#1
  let main_v5 : IVec S_ 1 := (fun x v => Host.reduce IntOp.andi x v reducesTo_S2000_S_d0 h_S_) main_v4 main_c_1
  let main_cst : FVec F S_ .f32 := constant S_ .f32 0x00000000#32
  let main_v6 : FVec F S10000x2000 .f32 := broadcastInDim S10000x2000 ![] bcast_S_S10000x2000 main_cst
  let main_v7 : IVec S10000x2000 1 := cmpf .oeq main_arg1 main_v6
  let main_cst_2 : FVec F S_ .f32 := constant S_ .f32 0x3F800000#32
  let main_v8 : FVec F S10000x2000 .f32 := broadcastInDim S10000x2000 ![] bcast_S_S10000x2000 main_cst_2
  let main_v9 : IVec S10000x2000 1 := cmpf .oeq main_arg1 main_v8
  let main_v10 : IVec S10000x2000 1 := ori main_v7 main_v9
  let main_c_3 : IVec S_ 1 := constantI S_ 1 1#1
  let main_v11 : IVec S_ 1 := (fun x v => Host.reduce IntOp.andi x v reducesTo_S10000x2000_S_d0_1 h_S_) main_v10 main_c_3
  let main_v12 : IVec S_ 1 := andi main_v5 main_v11
  let main_cst_4 : FVec F S_ .f32 := constant S_ .f32 0x00000000#32
  let main_v13 : FVec F S2000 .f32 := (fun x v => Host.reduceAdd x v reducesTo_S10000x2000_S2000_d0 h_S_) main_arg1 main_cst_4
  let main_cst_5 : FVec F S_ .f32 := constant S_ .f32 0x00000000#32
  let main_v14 : FVec F S2000 .f32 := broadcastInDim S2000 ![] bcast_S_S2000 main_cst_5
  let main_v15 : IVec S2000 1 := cmpf .ogt main_v13 main_v14
  fn_part1 (F := F) main_arg0 main_arg1 main_arg3 main_arg4 main_arg5 main_arg8 main_arg11 main_arg12 main_v12 main_v15
-- ==== Pre_root_in_rows.lean ====
abbrev S10000x128 : Shape := ⟨2, ![10000, 128]⟩
abbrev S10000x2000 : Shape := ⟨2, ![10000, 2000]⟩
abbrev S2000 : Shape := ⟨1, ![2000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S2000 : S_.BroadcastsInDim S2000 (![] : Fin 0 → Fin S2000.rank)
  reducesTo_S2000_S_d0 : S2000.ReducesTo [0] S_
  h_S_ : 0 < S_.numel

variable [Facts]

def fn {F : FTy → Type} [FloatOps F] (main_arg0 : FVec F S10000x128 .f32) (main_arg1 : FVec F S10000x2000 .f32) (main_arg2 : IVec S2000 32) (main_arg3 : FVec F S128x128 .f32) (main_arg4 : FVec F S128x128 .f32) (main_arg5 : FVec F S128 .f32) (main_arg6 : FVec F S128 .f32) (main_arg7 : FVec F S128 .f32) (main_arg8 : FVec F S128 .f32) (main_arg9 : FVec F S128x128 .f32) (main_arg10 : FVec F S128 .f32) (main_arg11 : FVec F S128x1 .f32) (main_arg12 : FVec F S1 .f32) : IVec S_ 1 :=
  let main_c : IVec S_ 32 := constantI S_ 32 0#32
  let main_v0 : IVec S2000 32 := broadcastInDim S2000 ![] bcast_S_S2000 main_c
  let main_v1 : IVec S2000 1 := cmpi .sge main_arg2 main_v0
  let main_c_0 : IVec S_ 32 := constantI S_ 32 10000#32
  let main_v2 : IVec S2000 32 := broadcastInDim S2000 ![] bcast_S_S2000 main_c_0
  let main_v3 : IVec S2000 1 := cmpi .slt main_arg2 main_v2
  let main_v4 : IVec S2000 1 := andi main_v1 main_v3
  let main_c_1 : IVec S_ 1 := constantI S_ 1 1#1
  let main_v5 : IVec S_ 1 := (fun x v => Host.reduce IntOp.andi x v reducesTo_S2000_S_d0 h_S_) main_v4 main_c_1
  main_v5
-- ==== Kernel.lean ====
abbrev S10000x128 : Shape := ⟨2, ![10000, 128]⟩
abbrev S10000x2000 : Shape := ⟨2, ![10000, 2000]⟩
abbrev S2000 : Shape := ⟨1, ![2000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S48 : Shape := ⟨1, ![48]⟩
abbrev S2048 : Shape := ⟨1, ![2048]⟩
abbrev S2048x128 : Shape := ⟨2, ![2048, 128]⟩
abbrev S64 : Shape := ⟨1, ![64]⟩
abbrev S64x128 : Shape := ⟨2, ![64, 128]⟩
abbrev S1x128 : Shape := ⟨2, ![1, 128]⟩
abbrev S2000x10000 : Shape := ⟨2, ![2000, 10000]⟩
abbrev S1x1 : Shape := ⟨2, ![1, 1]⟩
abbrev S2000x128 : Shape := ⟨2, ![2000, 128]⟩
abbrev S200x10000 : Shape := ⟨2, ![200, 10000]⟩
abbrev S1000x128 : Shape := ⟨2, ![1000, 128]⟩
abbrev S200x128 : Shape := ⟨2, ![200, 128]⟩
abbrev S1x10000 : Shape := ⟨2, ![1, 10000]⟩
abbrev S10000x1 : Shape := ⟨2, ![10000, 1]⟩
abbrev S200x1 : Shape := ⟨2, ![200, 1]⟩
abbrev S1000x1 : Shape := ⟨2, ![1000, 1]⟩
abbrev S1000 : Shape := ⟨1, ![1000]⟩

abbrev nBuf : Table → Nat
  | .hbm => 33
  | .local .tc .vmem => 24
  | .local .scVector .vmem => 2
  | _ => 0

abbrev bufTy : (tb : Table) → Fin (nBuf tb) → BufTy
  | .hbm, ⟨0, _⟩ => ⟨S10000x128, .f32⟩
  | .hbm, ⟨1, _⟩ => ⟨S10000x2000, .f32⟩
  | .hbm, ⟨2, _⟩ => ⟨S2000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x1, .f32⟩
  | .hbm, ⟨12, _⟩ => ⟨S1, .f32⟩
  | .hbm, ⟨13, _⟩ => ⟨S_, .i32⟩
  | .hbm, ⟨14, _⟩ => ⟨S48, .i32⟩
  | .hbm, ⟨15, _⟩ => ⟨S2048, .i32⟩
  | .hbm, ⟨16, _⟩ => ⟨S2048x128, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S128, .f32⟩
  | .hbm, ⟨22, _⟩ => ⟨S1x128, .f32⟩
  | .hbm, ⟨23, _⟩ => ⟨S128, .f32⟩
  | .hbm, ⟨24, _⟩ => ⟨S128, .f32⟩
  | .hbm, ⟨25, _⟩ => ⟨S128, .f32⟩
  | .hbm, ⟨26, _⟩ => ⟨S1x128, .f32⟩
  | .hbm, ⟨27, _⟩ => ⟨S2000x10000, .f32⟩
  | .hbm, ⟨28, _⟩ => ⟨S1x128, .f32⟩
  | .hbm, ⟨29, _⟩ => ⟨S1x128, .f32⟩
  | .hbm, ⟨30, _⟩ => ⟨S1x1, .f32⟩
  | .hbm, ⟨31, _⟩ => ⟨S2000x128, .f32⟩
  | .hbm, ⟨32, _⟩ => ⟨S10000x128, .f32⟩
  | .local .tc .vmem, ⟨0, _⟩ => ⟨S200x10000, .f32⟩
  | .local .tc .vmem, ⟨1, _⟩ => ⟨S200x10000, .f32⟩
  | .local .tc .vmem, ⟨2, _⟩ => ⟨S10000x128, .f32⟩
  | .local .tc .vmem, ⟨3, _⟩ => ⟨S1000x128, .f32⟩
  | .local .tc .vmem, ⟨4, _⟩ => ⟨S1000x128, .f32⟩
  | .local .tc .vmem, ⟨5, _⟩ => ⟨S200x128, .f32⟩
  | .local .tc .vmem, ⟨6, _⟩ => ⟨S200x128, .f32⟩
  | .local .tc .vmem, ⟨7, _⟩ => ⟨S128x128, .f32⟩
  | .local .tc .vmem, ⟨8, _⟩ => ⟨S128x128, .f32⟩
  | .local .tc .vmem, ⟨9, _⟩ => ⟨S1x128, .f32⟩
  | .local .tc .vmem, ⟨10, _⟩ => ⟨S1x128, .f32⟩
  | .local .tc .vmem, ⟨11, _⟩ => ⟨S128x128, .f32⟩
  | .local .tc .vmem, ⟨12, _⟩ => ⟨S1x128, .f32⟩
  | .local .tc .vmem, ⟨13, _⟩ => ⟨S1x128, .f32⟩
  | .local .tc .vmem, ⟨14, _⟩ => ⟨S1x1, .f32⟩
  | .local .tc .vmem, ⟨15, _⟩ => ⟨S200x128, .f32⟩
  | .local .tc .vmem, ⟨16, _⟩ => ⟨S200x128, .f32⟩
  | .local .tc .vmem, ⟨17, _⟩ => ⟨S1000x128, .f32⟩
  | .local .tc .vmem, ⟨18, _⟩ => ⟨S1000x128, .f32⟩
  | .local .tc .vmem, ⟨19, _⟩ => ⟨S10000x128, .bf16⟩
  | .local .tc .vmem, ⟨20, _⟩ => ⟨S10000x128, .f32⟩
  | .local .tc .vmem, ⟨21, _⟩ => ⟨S10000x128, .f32⟩
  | .local .tc .vmem, ⟨22, _⟩ => ⟨S1x10000, .f32⟩
  | .local .tc .vmem, ⟨23, _⟩ => ⟨S10000x1, .f32⟩
  | .local .scVector .vmem, ⟨0, _⟩ => ⟨S64, .i32⟩
  | .local .scVector .vmem, ⟨1, _⟩ => ⟨S64x128, .f32⟩
  | _, _ => ⟨S10000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_arg0_scv : Ref sig .scVector := ⟨.hbm, 0, rfl⟩
abbrev main_v1_scv : Ref sig .scVector := ⟨.hbm, 15, rfl⟩
abbrev main_v2_scv : Ref sig .scVector := ⟨.hbm, 16, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg2_1 : Ref sig .tc := ⟨.vmem, 4, rfl⟩
abbrev cc1_stg3_0 : Ref sig .tc := ⟨.vmem, 5, rfl⟩
abbrev cc1_stg3_1 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg6_0 : Ref sig .tc := ⟨.vmem, 9, rfl⟩
abbrev cc1_stg7_0 : Ref sig .tc := ⟨.vmem, 10, rfl⟩
abbrev cc1_stg8_0 : Ref sig .tc := ⟨.vmem, 11, rfl⟩
abbrev cc1_stg9_0 : Ref sig .tc := ⟨.vmem, 12, rfl⟩
abbrev cc1_stg10_0 : Ref sig .tc := ⟨.vmem, 13, rfl⟩
abbrev cc1_stg11_0 : Ref sig .tc := ⟨.vmem, 14, rfl⟩
abbrev cc1_stg12_0 : Ref sig .tc := ⟨.vmem, 15, rfl⟩
abbrev cc1_stg12_1 : Ref sig .tc := ⟨.vmem, 16, rfl⟩
abbrev cc1_stg13_0 : Ref sig .tc := ⟨.vmem, 17, rfl⟩
abbrev cc1_stg13_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem5_0 : DmaSem sig := 11
abbrev cc1_sem6_0 : DmaSem sig := 12
abbrev cc1_sem7_0 : DmaSem sig := 13
abbrev cc1_sem8_0 : DmaSem sig := 14
abbrev cc1_sem9_0 : DmaSem sig := 15
abbrev cc1_sem10_0 : DmaSem sig := 16
abbrev cc1_sem11_0 : DmaSem sig := 17
abbrev cc1_sem12_0 : DmaSem sig := 18
abbrev cc1_sem12_1 : DmaSem sig := 19
abbrev cc1_sem13_0 : DmaSem sig := 20
abbrev cc1_sem13_1 : DmaSem sig := 21
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_3_r1 : BitVec 32 := 0#32
  ![v2.toNat, 0]
abbrev grid1 : Pipeline.Grid := ⟨1, ![20], ![false]⟩

def k1_cond3 (i : grid1.Coords) : BitVec 1 :=
  let arg0 : BitVec 32 := BitVec.ofNat 32 (i 0).val
  let c10_i32_0 : BitVec 32 := 10#32
  let v3 : BitVec 1 := Scalar.cmpi .sge arg0 c10_i32_0
  let v4 : BitVec 32 := Scalar.extui v3
  let c0_i32_1 : BitVec 32 := 0#32
  let v5 : BitVec 1 := Scalar.cmpi .ne v4 c0_i32_1
  v5

def k1_off1 (i : grid1.Coords) : Fin 2 → Nat :=
  let arg0 : BitVec 32 := BitVec.ofNat 32 (i 0).val
  let c10_i32_2 : BitVec 32 := 10#32
  let v6 : BitVec 32 := Scalar.subi arg0 c10_i32_2
  let c1000_i32 : BitVec 32 := 1000#32
  let v11 : BitVec 32 := Scalar.muli v6 c1000_i32
  let v12 : Index := Scalar.indexCast v11
  let c0_6 : Index := 0#32
  ![v12.toNat, 0]
def k1_off2 (i : grid1.Coords) : Fin 2 → Nat :=
  let arg0 : BitVec 32 := BitVec.ofNat 32 (i 0).val
  let c10_i32_2 : BitVec 32 := 10#32
  let v6 : BitVec 32 := Scalar.subi arg0 c10_i32_2
  let c1000_i32_7 : BitVec 32 := 1000#32
  let v14 : BitVec 32 := Scalar.muli v6 c1000_i32_7
  let v15 : Index := Scalar.indexCast v14
  let c0_8 : Index := 0#32
  ![v15.toNat, 0]
def k1_cond1 (i : grid1.Coords) : BitVec 1 :=
  let arg0 : BitVec 32 := BitVec.ofNat 32 (i 0).val
  let c10_i32 : BitVec 32 := 10#32
  let v0 : BitVec 1 := Scalar.cmpi .slt arg0 c10_i32
  let v1 : BitVec 32 := Scalar.extui v0
  let c0_i32 : BitVec 32 := 0#32
  let v2 : BitVec 1 := Scalar.cmpi .ne v1 c0_i32
  v2

def cc1_transform_0 (i : grid1.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc1_transform_3 (i : grid1.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c9_i32 : BitVec 32 := 9#32
  let v0 : BitVec 32 := Scalar.minsi arg0 c9_i32
  let c0_i32 : BitVec 32 := 0#32
  let c0_i32_0 : BitVec 32 := 0#32
  ![v0.toNat, c0_i32.toNat]

def cc1_transform_13 (i : grid1.Coords) : Fin 2 → Nat :=
  let arg0 : BitVec 32 := BitVec.ofNat 32 (i 0).val
  let c10_i32 : BitVec 32 := 10#32
  let v0 : BitVec 32 := Scalar.subi arg0 c10_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S200x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x128 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S200x128 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S10000x128 : Shape := ⟨2, ![10000, 128]⟩
abbrev S10000x2000 : Shape := ⟨2, ![10000, 2000]⟩
abbrev S2000 : Shape := ⟨1, ![2000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S2000x1 : Shape := ⟨2, ![2000, 1]⟩
abbrev S2000x128 : Shape := ⟨2, ![2000, 128]⟩
abbrev S2000x10000 : Shape := ⟨2, ![2000, 10000]⟩
abbrev S128x2000 : Shape := ⟨2, ![128, 2000]⟩
abbrev S10000 : Shape := ⟨1, ![10000]⟩
abbrev S10000x1 : Shape := ⟨2, ![10000, 1]⟩
abbrev S1x128 : Shape := ⟨2, ![1, 128]⟩
abbrev S1x10000x128 : Shape := ⟨3, ![1, 10000, 128]⟩
abbrev S2x10000x128 : Shape := ⟨3, ![2, 10000, 128]⟩
abbrev S1x1x128 : Shape := ⟨3, ![1, 1, 128]⟩
abbrev S2x10000x1 : Shape := ⟨3, ![2, 10000, 1]⟩
abbrev S1x1x1 : Shape := ⟨3, ![1, 1, 1]⟩
abbrev S1x10000x1 : Shape := ⟨3, ![1, 10000, 1]⟩

abbrev nBuf : Space → Nat
  | .hbm => 167
  | .vmem => 0
  | .smem => 0
  | _ => 0

abbrev hbmTy0_0 (i : Nat) : BufTy := match i % 128 with
  | 0 => ⟨S10000x128, .f32⟩
  | 1 => ⟨S10000x2000, .f32⟩
  | 2 => ⟨S2000, .i32⟩
  | 3 => ⟨S128x128, .f32⟩
  | 4 => ⟨S128x128, .f32⟩
  | 5 => ⟨S128, .f32⟩
  | 6 => ⟨S128, .f32⟩
  | 7 => ⟨S128, .f32⟩
  | 8 => ⟨S128, .f32⟩
  | 9 => ⟨S128x128, .f32⟩
  | 10 => ⟨S128, .f32⟩
  | 11 => ⟨S128x1, .f32⟩
  | 12 => ⟨S1, .f32⟩
  | 13 => ⟨S_, .i32⟩
  | 14 => ⟨S2000, .i32⟩
  | 15 => ⟨S2000, .i1⟩
  | 16 => ⟨S_, .i32⟩
  | 17 => ⟨S2000, .i32⟩
  | 18 => ⟨S2000, .i32⟩
  | 19 => ⟨S2000, .i32⟩
  | 20 => ⟨S2000x1, .i32⟩
  | 21 => ⟨S2000x128, .f32⟩
  | 22 => ⟨S10000x128, .f32⟩
  | 23 => ⟨S_, .f32⟩
  | 24 => ⟨S2000, .f32⟩
  | 25 => ⟨S2000x1, .f32⟩
  | 26 => ⟨S2000x10000, .f32⟩
  | 27 => ⟨S2000x128, .f32⟩
  | 28 => ⟨S_, .f32⟩
  | 29 => ⟨S2000x1, .f32⟩
  | 30 => ⟨S2000x1, .f32⟩
  | 31 => ⟨S2000x128, .f32⟩
  | 32 => ⟨S2000x128, .f32⟩
  | 33 => ⟨S2000x128, .f32⟩
  | 34 => ⟨S2000x128, .f32⟩
  | 35 => ⟨S128x2000, .f32⟩
  | 36 => ⟨S10000x2000, .f32⟩
  | 37 => ⟨S_, .f32⟩
  | 38 => ⟨S10000x2000, .f32⟩
  | 39 => ⟨S10000x2000, .i1⟩
  | 40 => ⟨S_, .f32⟩
  | 41 => ⟨S_, .f32⟩
  | 42 => ⟨S10000x2000, .f32⟩
  | 43 => ⟨S10000x2000, .f32⟩
  | 44 => ⟨S2000x10000, .f32⟩
  | 45 => ⟨S_, .f32⟩
  | 46 => ⟨S2000, .f32⟩
  | 47 => ⟨S_, .f32⟩
  | 48 => ⟨S2000, .f32⟩
  | 49 => ⟨S2000, .f32⟩
  | 50 => ⟨S2000x1, .f32⟩
  | 51 => ⟨S2000x10000, .f32⟩
  | 52 => ⟨S2000x10000, .f32⟩
  | 53 => ⟨S2000x10000, .f32⟩
  | 54 => ⟨S_, .f32⟩
  | 55 => ⟨S2000, .f32⟩
  | 56 => ⟨S2000x1, .f32⟩
  | 57 => ⟨S2000x10000, .f32⟩
  | 58 => ⟨S2000x10000, .f32⟩
  | 59 => ⟨S2000x128, .f32⟩
  | 60 => ⟨S_, .f32⟩
  | 61 => ⟨S10000, .f32⟩
  | 62 => ⟨S_, .f32⟩
  | 63 => ⟨S10000, .f32⟩
  | 64 => ⟨S10000, .f32⟩
  | 65 => ⟨S10000x1, .f32⟩
  | 66 => ⟨S10000x2000, .f32⟩
  | 67 => ⟨S10000x2000, .f32⟩
  | 68 => ⟨S10000x2000, .f32⟩
  | 69 => ⟨S_, .f32⟩
  | 70 => ⟨S10000, .f32⟩
  | 71 => ⟨S10000x1, .f32⟩
  | 72 => ⟨S10000x2000, .f32⟩
  | 73 => ⟨S10000x2000, .f32⟩
  | 74 => ⟨S10000x128, .f32⟩
  | 75 => ⟨S_, .f32⟩
  | 76 => ⟨S10000x128, .f32⟩
  | 77 => ⟨S10000x128, .i1⟩
  | 78 => ⟨S_, .f32⟩
  | 79 => ⟨S10000x128, .f32⟩
  | 80 => ⟨S10000x128, .i1⟩
  | 81 => ⟨S_, .f32⟩
  | 82 => ⟨S_, .f32⟩
  | 83 => ⟨S10000x128, .f32⟩
  | 84 => ⟨S10000x128, .f32⟩
  | 85 => ⟨S10000x128, .f32⟩
  | 86 => ⟨S_, .f32⟩
  | 87 => ⟨S10000x128, .f32⟩
  | 88 => ⟨S10000x128, .f32⟩
  | 89 => ⟨S10000x128, .f32⟩
  | 90 => ⟨S_, .f32⟩
  | 91 => ⟨S2000x128, .f32⟩
  | 92 => ⟨S2000x128, .i1⟩
  | 93 => ⟨S_, .f32⟩
  | 94 => ⟨S2000x128, .f32⟩
  | 95 => ⟨S2000x128, .i1⟩
  | 96 => ⟨S_, .f32⟩
  | 97 => ⟨S_, .f32⟩
  | 98 => ⟨S2000x128, .f32⟩
  | 99 => ⟨S2000x128, .f32⟩
  | 100 => ⟨S2000x128, .f32⟩
  | 101 => ⟨S_, .f32⟩
  | 102 => ⟨S2000x128, .f32⟩
  | 103 => ⟨S2000x128, .f32⟩
  | 104 => ⟨S2000x128, .f32⟩
  | 105 => ⟨S1x128, .f32⟩
  | 106 => ⟨S10000x128, .f32⟩
  | 107 => ⟨S10000x128, .f32⟩
  | 108 => ⟨S_, .f32⟩
  | 109 => ⟨S128, .f32⟩
  | 110 => ⟨S128, .f32⟩
  | 111 => ⟨S128, .f32⟩
  | 112 => ⟨S1x128, .f32⟩
  | 113 => ⟨S10000x128, .f32⟩
  | 114 => ⟨S10000x128, .f32⟩
  | 115 => ⟨S1x128, .f32⟩
  | 116 => ⟨S10000x128, .f32⟩
  | 117 => ⟨S10000x128, .f32⟩
  | 118 => ⟨S1x128, .f32⟩
  | 119 => ⟨S10000x128, .f32⟩
  | 120 => ⟨S10000x128, .f32⟩
  | 121 => ⟨S1x128, .f32⟩
  | 122 => ⟨S2000x128, .f32⟩
  | 123 => ⟨S2000x128, .f32⟩
  | 124 => ⟨S_, .f32⟩
  | 125 => ⟨S128, .f32⟩
  | 126 => ⟨S128, .f32⟩
  | 127 => ⟨S128, .f32⟩
  | _ => ⟨S10000x128, .f32⟩

abbrev hbmTy0_1 (i : Nat) : BufTy := match i % 128 with
  | 0 => ⟨S1x128, .f32⟩
  | 1 => ⟨S2000x128, .f32⟩
  | 2 => ⟨S2000x128, .f32⟩
  | 3 => ⟨S1x128, .f32⟩
  | 4 => ⟨S2000x128, .f32⟩
  | 5 => ⟨S2000x128, .f32⟩
  | 6 => ⟨S1x128, .f32⟩
  | 7 => ⟨S2000x128, .f32⟩
  | 8 => ⟨S2000x128, .f32⟩
  | 9 => ⟨S1x10000x128, .f32⟩
  | 10 => ⟨S1x10000x128, .f32⟩
  | 11 => ⟨S2x10000x128, .f32⟩
  | 12 => ⟨S2x10000x128, .f32⟩
  | 13 => ⟨S1x1x128, .f32⟩
  | 14 => ⟨S2x10000x128, .f32⟩
  | 15 => ⟨S2x10000x128, .f32⟩
  | 16 => ⟨S2x10000x128, .f32⟩
  | 17 => ⟨S2x10000x1, .f32⟩
  | 18 => ⟨S1x1x1, .f32⟩
  | 19 => ⟨S2x10000x1, .f32⟩
  | 20 => ⟨S2x10000x1, .f32⟩
  | 21 => ⟨S_, .f32⟩
  | 22 => ⟨S10000x1, .f32⟩
  | 23 => ⟨S_, .f32⟩
  | 24 => ⟨S10000x1, .f32⟩
  | 25 => ⟨S10000x1, .f32⟩
  | 26 => ⟨S1x10000x1, .f32⟩
  | 27 => ⟨S2x10000x1, .f32⟩
  | 28 => ⟨S2x10000x1, .f32⟩
  | 29 => ⟨S2x10000x1, .f32⟩
  | 30 => ⟨S_, .f32⟩
  | 31 => ⟨S10000x1, .f32⟩
  | 32 => ⟨S1x10000x1, .f32⟩
  | 33 => ⟨S2x10000x1, .f32⟩
  | 34 => ⟨S2x10000x1, .f32⟩
  | 35 => ⟨S2x10000x128, .f32⟩
  | 36 => ⟨S2x10000x128, .f32⟩
  | 37 => ⟨S_, .f32⟩
  | 38 => ⟨S10000x128, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_v22 : Ref sig .tc := ⟨.hbm, 43, rfl⟩
abbrev main_v23 : Ref sig .tc := ⟨.hbm, 44, rfl⟩
abbrev main_cst_4 : Ref sig .tc := ⟨.hbm, 45, rfl⟩
abbrev main_v24 : Ref sig .tc := ⟨.hbm, 46, rfl⟩
abbrev main_cst_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_cst_8 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_9 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_cst_1 : Ref sig .tc := ⟨.hbm, 81, rfl⟩
abbrev main_call1_call0_v0 : Ref sig .tc := ⟨.hbm, 82, rfl⟩
abbrev main_call1_call0_v1 : Ref sig .tc := ⟨.hbm, 83, rfl⟩
abbrev main_call1_v4 : Ref sig .tc := ⟨.hbm, 84, rfl⟩
abbrev main_call1_v5 : Ref sig .tc := ⟨.hbm, 85, rfl⟩
abbrev main_call1_cst_2 : Ref sig .tc := ⟨.hbm, 86, rfl⟩
abbrev main_call1_v6 : Ref sig .tc := ⟨.hbm, 87, rfl⟩
abbrev main_call1_v7 : Ref sig .tc := ⟨.hbm, 88, rfl⟩
abbrev main_v48 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_cst_0 : Ref sig .tc := ⟨.hbm, 93, rfl⟩
abbrev main_call2_v2 : Ref sig .tc := ⟨.hbm, 94, rfl⟩
abbrev main_call2_v3 : Ref sig .tc := ⟨.hbm, 95, rfl⟩
abbrev main_call2_cst_1 : Ref sig .tc := ⟨.hbm, 96, rfl⟩
abbrev main_call2_call0_v0 : Ref sig .tc := ⟨.hbm, 97, rfl⟩
abbrev main_call2_call0_v1 : Ref sig .tc := ⟨.hbm, 98, rfl⟩
abbrev main_call2_v4 : Ref sig .tc := ⟨.hbm, 99, rfl⟩
abbrev main_call2_v5 : Ref sig .tc := ⟨.hbm, 100, rfl⟩
abbrev main_call2_cst_2 : Ref sig .tc := ⟨.hbm, 101, rfl⟩
abbrev main_call2_v6 : Ref sig .tc := ⟨.hbm, 102, rfl⟩
abbrev main_call2_v7 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_10 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_cst_11 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_12 : Ref sig .tc := ⟨.hbm, 149, rfl⟩
abbrev main_v92 : Ref sig .tc := ⟨.hbm, 150, rfl⟩
abbrev main_cst_13 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_cst_14 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_cst_15 : Ref sig .tc := ⟨.hbm, 165, rfl⟩
abbrev main_v105 : Ref sig .tc := ⟨.hbm, 166, rfl⟩

abbrev nD : Nat := 1
abbrev τ : Topo := Topo.v7x

variable {F : FTy → Type} [FloatOps F]
-- ==== Proof.Sc.lean ====
/-
  The SparseCore call: thirty-two tasks, each fetching sixty-four row numbers, gathering those rows of the table and
  writing them to its block of the result. Every task reads the whole table and the whole list of row numbers, a
  thirty-second share of each; its block of the result it holds outright and leaves at the gathered rows (`gath`).
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch set-up -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × (UR sig nD τ × Counters)

local notation "𝕄" => MT nD τ sig (HIx 1) (Elt F) ℕ UU ℕ

abbrev EH : Emb UH (MT nD τ sig (HIx 1) (Elt F) ℕ UU ℕ) := embL

/-! ## The buffers of the call -/

abbrev xLoc (d : Dev nD) : Loc nD τ sig := (SparseCore.T d).loc main_arg0
abbrev iLoc (d : Dev nD) : Loc nD τ sig := (SparseCore.T d).loc main_v1
abbrev oLoc (d : Dev nD) : Loc nD τ sig := (SparseCore.T d).loc main_v2

local notation "xV" => (Memref.whole Cert.KernelIdeal.main_arg0_scv : Memref Cert.KernelIdeal.sig Kind.scVector Space.hbm Cert.KernelIdeal.S10000x128 EltTy.f32)
local notation "iV" => (Memref.whole Cert.KernelIdeal.main_v1_scv : Memref Cert.KernelIdeal.sig Kind.scVector Space.hbm Cert.KernelIdeal.S2048 EltTy.i32)
local notation "oV" => (Memref.whole Cert.KernelIdeal.main_v2_scv : Memref Cert.KernelIdeal.sig Kind.scVector Space.hbm Cert.KernelIdeal.S2048x128 EltTy.f32)
local notation "sV" => (Memref.whole Cert.KernelIdeal.cc0_scratch0 : Memref Cert.KernelIdeal.sig Kind.scVector Space.vmem Cert.KernelIdeal.S64 EltTy.i32)
local notation "rV" => (Memref.whole Cert.KernelIdeal.cc0_scratch1 : Memref Cert.KernelIdeal.sig Kind.scVector Space.vmem Cert.KernelIdeal.S64x128 EltTy.f32)

/-- Row `r` of the table named by a word, and entry `r` of the list of row numbers. -/
def tabIx (n : ℕ) (c : Fin 128) : S10000x128.Idx
  | 0 => ⟨n % 10000, Nat.mod_lt _ (by decide)⟩
  | 1 => c
def listIx (r : Fin 2048) : S2048.Idx
  | 0 => r

/-- The rows of the table `xf` the list `ib` names, in the list's order. -/
def gath (xf : S10000x128.Idx → Elt F .f32) (ib : S2048.Idx → Elt F .i32) : S2048x128.Idx → Elt F .f32 :=
  fun j => xf (tabIx (ib (listIx (j 0))).toNat (j 1))

theorem odiv : 32 ∣ S2048x128.size 0 := ⟨64, rfl⟩
/-- Block `w` of the result: sixty-four rows. -/
abbrev orow (w : Fin 32) : Rect S2048x128 := Rect.part (s := S2048x128) (a₀ := 0) odiv w

/-- The task of subcore `s` of core `c` is number `2 s + c`. -/
def wid (c : Fin 2) (s : Fin 16) : Fin 32 := ⟨2 * s.val + c.val, by omega⟩

/-- A task's share of what every task reads. -/
abbrev shr (w : Fin 32) : PosShare TreeShare := pieceOf fullShare 32 (by decide) w

/-! ## What the handshakes carry -/

variable (xb : (d : Dev nD) → Buf (Elt F) (xLoc d)) (ib : (d : Dev nD) → Buf (Elt F) (iLoc d)) (ob : (d : Dev nD) → Buf (Elt F) (oLoc d))

/-- What a task is handed, and hands back: its shares of the list and the table, its block of the result at `f`. -/
def tilePts (f : (d : Dev nD) → Buf (Elt F) (oLoc d)) (d : Dev nD) (w : Fin 32) : sProp 𝕄 :=
  iprop((iLoc d ↦{shr w} ib d) ∗ (xLoc d ↦{shr w} xb d) ∗ (oLoc d ↦[(orow w).set]{fullShare} f d))

/-- The result whole, every block gathered. -/
def outB (d : Dev nD) : Buf (Elt F) (oLoc d) := gath (xb d) (ib d)

instance tilePts_storable (f : (d : Dev nD) → Buf (Elt F) (oLoc d)) (d : Dev nD) (w : Fin 32) :
    BI.Storable (upEmb : UEmb _ 𝕄) (tilePts xb ib f d w) := by unfold tilePts; infer_instance

/-- The call takes every task's part and brings it back. -/
def P : (K (F := F)).Pay (nD := nD) (Val := Elt F) (Name := ℕ) (U := UU) where
  st := fun q d c => match q with
    | 0 => bigSep Finset.univ fun i : Fin ((K (F := F)).nSub 0) => tilePts xb ib ob d (wid (Fin.cast nCore_zero c) (Fin.cast nSub_zero i))
  dn := fun q d c => match q with
    | 0 => bigSep Finset.univ fun i : Fin ((K (F := F)).nSub 0) => tilePts xb ib (outB xb ib) d (wid (Fin.cast nCore_zero c) (Fin.cast nSub_zero i))
  go := fun q d c i => match q with | 0 => tilePts xb ib ob d (wid (Fin.cast nCore_zero c) (Fin.cast nSub_zero i))
  td := fun q d c i => match q with | 0 => tilePts xb ib (outB xb ib) d (wid (Fin.cast nCore_zero c) (Fin.cast nSub_zero i))
  x := fun _ _ => iprop(emp)

instance P_storable : (P xb ib ob).IsStorable where
  st q d c := match q with | 0 => by dsimp only [P]; infer_instance
  dn q d c := match q with | 0 => by dsimp only [P]; infer_instance
  go q d c i := match q with | 0 => by dsimp only [P]; infer_instance
  td q d c i := match q with | 0 => by dsimp only [P]; infer_instance

theorem vecSplit : (K (F := F)).VecSplit' (P xb ib ob) 0 := by
  intro d c
  dsimp only [P]
  iintro H
  imodintro
  isplitl [H]; · iexact H
  iintro H; iexact H

/-! ## The task -/

section Tile

variable [FloatOps F] (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
abbrev wL (L : grid0.Coords) : Fin 32 := wid (Fin.cast bound_zero (L 0)) (Fin.cast bound_one (L 1))

abbrev irowK (L : grid0.Coords) : Rect S2048 := Rect.unit (s := S2048) (k0_off1 L) S64.size (k0_off1_inb L)
abbrev orowK (L : grid0.Coords) : Rect S2048x128 := Rect.unit (s := S2048x128) (k0_off2 L) S64x128.size (k0_off2_inb L)
/-- The task's entries of the list and its block of the result, and the whole table, as the task addresses them. -/
abbrev iRowK (L : grid0.Coords) : Memref sig .scVector .hbm S64 .i32 := (iV).slice (irowK L) (fun _ => rfl)
abbrev oRowK (L : grid0.Coords) : Memref sig .scVector .hbm S64x128 .f32 := (oV).slice (orowK L) (fun _ => rfl)
abbrev xAllK : Memref sig .scVector .hbm S10000x128 .f32 := (xV).slice (Rect.unit (s := S10000x128) ![0, 0] S10000x128.size inb_S10000x128_S10000x128_0_0) (fun _ => rfl)

theorem orowK_eq : orowK L = orow (wL L) := by
  unfold orowK orow Rect.part Rect.block
  congr 1 <;> funext a
  · rw [k0_off2_eq]
    match a with
    | 0 =>
      have h0 : (Fin.cast bound_zero (L 0)).val = (L 0).val := rfl
      have h1 : (Fin.cast bound_one (L 1)).val = (L 1).val := rfl
      simp only [Matrix.cons_val_zero, Shape.partIx, Shape.partSize, wid, h0, h1, if_true, ↓reduceIte]
      show 128 * (L 1).val + 64 * (L 0).val = (2 * (L 1).val + (L 0).val) * 64
      omega
    | 1 => simp [Shape.partIx, Shape.partSize]
  · match a with
    | 0 => simp [Shape.partSize]
    | 1 => simp [Shape.partSize]

theorem set_oRowK : (oRowK L).view.set = (orow (wL L)).set := by
  show ((View.whole (main_v2_scv : Ref sig .scVector)).slice (orowK L)).set = _
  rw [View.set_slice, orowK_eq]; exact Finset.map_refl

theorem pts_oRowK (f : Buf (Elt F) (oLoc d)) :
    ((oRowK L).view.loc (V d (cV L) (jV L)) ↦[(oRowK L).view.set]{fullShare} f : sProp 𝕄) = oLoc d ↦[(orow (wL L)).set]{fullShare} f := by
  rw [set_oRowK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

abbrev cGcell (d : Dev nD) (c : Fin τ.nSC) (i : Fin τ.nSub) : GSem nD τ sig := (V d c i, .dma cc0_scratch2.sem)
abbrev cAcell (d : Dev nD) (c : Fin τ.nSC) (i : Fin τ.nSub) : GSem nD τ sig := (V d c i, .dma cc0_scoped0.sem)
abbrev cBcell (d : Dev nD) (c : Fin τ.nSC) (i : Fin τ.nSub) : GSem nD τ sig := (V d c i, .dma cc0_scoped1.sem)

theorem ownSems0_V :
    (ownSems0 (V d (cV L) (jV L)) : sProp 𝕄)
      = iprop(semVal (cGcell d (cV L) (jV L)) 0 ∗ semVal (cAcell d (cV L) (jV L)) 0 ∗ semVal (cBcell d (cV L) (jV L)) 0
          ∗ bigSep ((((ownCells (V d (cV L) (jV L))).erase (cGcell d (cV L) (jV L))).erase (cAcell d (cV L) (jV L))).erase (cBcell d (cV L) (jV L))) fun g => semVal g 0) := by
  unfold SparseCore.Cfg.ownSems0
  rw [SparseCore.bigSep_erase' ((mem_ownCells (g := cGcell d (cV L) (jV L))).mpr ⟨rfl, by
      show (SemLoc.dma cc0_scratch2.sem : SemLoc sig).isScoped .scVector = true; decide⟩),
    SparseCore.bigSep_erase' (Finset.mem_erase.mpr ⟨by simp [cGcell, cAcell]; decide, (mem_ownCells (g := cAcell d (cV L) (jV L))).mpr ⟨rfl, by
      show (SemLoc.dma cc0_scoped0.sem : SemLoc sig).isScoped .scVector = true; decide⟩⟩),
    SparseCore.bigSep_erase' (Finset.mem_erase.mpr ⟨by simp [cAcell, cBcell]; decide, Finset.mem_erase.mpr ⟨by simp [cGcell, cBcell]; decide,
      (mem_ownCells (g := cBcell d (cV L) (jV L))).mpr ⟨rfl, by show (SemLoc.dma cc0_scoped1.sem : SemLoc sig).isScoped .scVector = true; decide⟩⟩⟩)]

/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Every entry of the list names a row of the table. -/
def InTab : Prop := ∀ (d : Dev nD) (j : S2048.Idx), (ib d j).toNat < 10000

/-- What the index fetch lands: the task's entries of the list. -/
def fetched : S64.Idx → Elt F .i32 := (iRowK L).view.read (Elt F) (ib d)

theorem fetched_apply (x : S64.Idx) : fetched ib d L x = ib d ((irowK L).emb x) :=
  (View.read_apply _ _).trans (cast_eq _ _)

theorem offs_eq (fs : Buf (Elt F) ((V d (cV L) (jV L)).loc cc0_scratch0)) (pay : S64.Idx → Elt F .i32) :
    (sV).view.read (Elt F) (View.write (Elt F) (sV).view fs pay Finset.univ) = pay := by
  rw [View.write_whole_univ]
  simp only [Memref.view_whole, View.read_whole]

/-- The row numbers the gather reads are in range. -/
theorem offs_inb (hib : InTab ib) (fs : Buf (Elt F) ((V d (cV L) (jV L)).loc cc0_scratch0)) (pay : S64.Idx → Elt F .i32)
    (hpay : pay = fetched ib d L) :
    ∀ x, ((sV).view.read (Elt F) (View.write (Elt F) (sV).view fs pay Finset.univ) x).toNat < S10000x128.size gathers_S10000x128_S64x128.axis := by
  subst hpay; intro x
  rw [offs_eq, fetched_apply]
  exact hib d _

/-- What the gather delivers, row by row: at each place the gathered table at the task's block. -/
theorem payload_eq (hib : InTab ib) (offs : S64.Idx → Elt F .i32) (hoffs : offs = fetched ib d L) (hn : S64.numel = S64x128.size gathers_S10000x128_S64x128.axis')
    (hin : ∀ x, (offs x).toNat < S10000x128.size gathers_S10000x128_S64x128.axis) (x : S64x128.Idx) :
    SparseCore.gatherPayload gathers_S10000x128_S64x128 ((xAllK).view.read (Elt F) (xb d)) (SparseCore.rows offs hn hin) x
      = outB xb ib d ((orowK L).emb x) := by
  subst hoffs
  unfold SparseCore.gatherPayload outB gath
  refine ((View.read_apply _ _).trans (cast_eq _ _)).trans ?_
  refine congrArg (xb d) (funext fun a => ?_)
  match a with
  | 0 =>
    refine Fin.ext ?_
    have e : ∀ y : S10000x128.Idx, ((xAllK).view.emb y 0).val = (y 0).val := fun y =>
      (Rect.emb_apply _ _ _).trans (by simp)
    rw [e]
    have h0 : (tabIx (ib d (listIx ((orowK L).emb x 0))).toNat ((orowK L).emb x 1) 0).val
        = (ib d (listIx ((orowK L).emb x 0))).toNat := Nat.mod_eq_of_lt (hib d _)
    rw [h0]
    refine (congrArg Fin.val (Shape.Gathers.idx_axis gathers_S10000x128_S64x128 _ x)).trans ?_
    unfold SparseCore.rows
    show (fetched ib d L _).toNat = _
    rw [fetched_apply]
    refine congrArg (fun j => (ib d j).toNat) (funext fun a => ?_)
    match a with
    | 0 =>
      refine Fin.ext ?_
      have hy : ((S64.rowMajor.symm (Fin.cast hn.symm (x gathers_S10000x128_S64x128.axis'))) 0).val = (x 0).val :=
        (Shape.rowMajor_val_one _).symm.trans (congrArg Fin.val (Equiv.apply_symm_apply S64.rowMajor _))
      refine (Rect.emb_apply _ _ _).trans ?_
      refine Eq.trans ?_ (Rect.emb_apply _ _ _).symm
      simp [k0_off1_eq, k0_off2_eq]
      exact hy
  | 1 =>
    refine Fin.ext ?_
    have e : ∀ y : S10000x128.Idx, ((xAllK).view.emb y 1).val = (y 1).val := fun y =>
      (Rect.emb_apply _ _ _).trans (by simp)
    rw [e]
    refine (Shape.Gathers.idx_of_ne gathers_S10000x128_S64x128 _ x 1 (by decide)).trans ?_
    refine Eq.trans ?_ (Rect.emb_apply _ _ _).symm
    simp [k0_off2_eq]

set_option maxHeartbeats 4000000 in
theorem tile_body (hF : (K (F := F)).Facts) (hib : InTab ib) (O : CellTallies nD τ sig (HIx 1)) (W : Waits sig (HIx 1)) (hO : ∀ g, O g none = 0) :
    iprop(levAts (K (F := F)).L (K (F := F)).lev ∗ emp ∗ tilePts xb ib ob d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_k L xV (Memref.isWhole_whole _) iV (Memref.isWhole_whole _) oV (Memref.isWhole_whole _)
            sV (Memref.isWhole_whole _) rV (Memref.isWhole_whole _) cc0_scratch2 cc0_scoped0 cc0_scoped1)
          fun _ => iprop(tilePts xb ib (outB xb ib) d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_k_eq_skeleton]; unfold cc0_k_skel tilePts
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (show (iLoc d ↦{shr (wL L)} ib d : sProp 𝕄) = ((iV).view.loc (V d (cV L) (jV L)) ↦{shr (wL L)} ib d) from rfl)) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := shr (wL L)) (f := xb d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 ib d L) Finset.univ : sProp 𝕄)
      = (sV).view.loc (V d (cV L) (jV L)) ↦[(sV).view.set]{fullShare} View.write (Elt F) (sV).view fs (tile_body.sl.dma0 ib d L) Finset.univ
      by rw [hss])) $$ Hs'
  have hN : ∀ h : S10000x128.Gathers 0 S64x128, ∑ j, ((rV).slice (S64x128.rowRect h.axis' j) (S64x128.stride_rowRect h.axis' j)).view.dmaCredit
      = (rV).view.dmaCredit := by decide
  iapply (SparseCore.wp_indirectGatherLocal countersEmb 𝒱₀ (V d (cV L) (jV L)) none (hg := gathers_S10000x128_S64x128) (default : HIx 1)
      (rV).view.dmaCredit (hN _) (by decide) (offs_inb ib d L hib fs _ rfl)) $$ [Hxs Hr'' Hs'' HsemG]
  · isplitl [Hxs]; · iexact Hxs
    isplitl [Hr'']; · iexact Hr''
    isplitl [Hs'']; · iexact Hs''
    iexact HsemG
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemG, HO⟩
  ihave Hx' := (pointsTo_split_subset (q := shr (wL L)) (f := xb d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iexact Hi'
    isplitl [Hx']; · iexact Hx'
    have hpay : ∀ y, tile_body.sl.dma0_1 xb ib d L hib fs fr y = outB xb ib d ((orowK L).emb y) := by
      intro y
      unfold tile_body.sl.dma0_1
      rw [View.write_whole_univ]
      simp only [Memref.view_whole, View.read_whole]
      exact payload_eq xb ib d L hib _ (offs_eq d L _ _) _ _ y
    iapply (Entails.of_eq (pts_oRowK (F := F) d L _))
    iapply (Entails.of_eq (pointsTo_congr (fun j hj => ?_))) $$ Ho'
    obtain ⟨y, -, rfl⟩ := Finset.mem_map.mp hj
    refine Eq.trans ?_ (hpay y)
    have hr := congrFun (View.read_writes_whole (oRowK L).view (ob d) (tile_body.sl.dma0_1 xb ib d L hib fs fr)) y
    rw [View.read_apply] at hr
    exact hr
  isplitl [Hs3 Hr3 Hbufs]
  · isplitl [Hs3]; · iexists _; iexact Hs3
    isplitl [Hr3]; · iexists _; iexact Hr3
    iexact Hbufs
  isplitl [HsemG HsemA HsemB Hsems]
  · isplitl [HsemG]; · iexact HsemG
    isplitl [HsemA]; · iexact HsemA
    isplitl [HsemB]; · iexact HsemB
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hib : InTab ib) : (K (F := F)).TileObl (D (F := F)) 𝒱 (P xb ib ob) v₀ 0 := by
  intro d c i O W hO _ _
  simp only [show (P xb ib ob).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body xb ib ob d (coordsV ⟨_, hci.1⟩ ⟨_, hci.2⟩) hF hib O W hO).trans (wp_mono frame _ _ fun _ => obl_post)

end Tile

/-! ## The call's operands, split among the tasks and joined again -/

/-- The tasks, core by core. -/
def taskEquiv : Fin 2 × Fin 16 ≃ Fin 32 where
  toFun p := wid p.1 p.2
  invFun w := (⟨w.val % 2, by omega⟩, ⟨w.val / 2, by omega⟩)
  left_inv p := by
    refine Prod.ext (Fin.ext ?_) (Fin.ext ?_) <;> simp [wid] <;> omega
  right_inv w := by refine Fin.ext ?_; simp [wid]; omega

/-- The list, the table and the result (at `f`) whole are every task's part. -/
theorem whole_tiles (f : (d : Dev nD) → Buf (Elt F) (oLoc d)) (d : Dev nD) :
    (iprop((iLoc d ↦{fullShare} ib d) ∗ (xLoc d ↦{fullShare} xb d) ∗ (oLoc d ↦{fullShare} f d)) : sProp 𝕄)
      = bigSep Finset.univ fun w : Fin 32 => tilePts xb ib f d w := by
  unfold tilePts
  rw [bigSep_sep', bigSep_sep', ← pointsTo_piecesOf, ← pointsTo_piecesOf,
    ← pointsTo_biUnion Finset.univ (ℓ := oLoc d) (fun w : Fin 32 => (orow w).set) (fun i _ j _ h => Rect.part_disjoint odiv h),
    Rect.biUnion_part odiv]

theorem tiles_cores (f : (d : Dev nD) → Buf (Elt F) (oLoc d)) (d : Dev nD) :
    (bigSep Finset.univ fun w : Fin 32 => (tilePts xb ib f d w : sProp 𝕄))
      = bigSep Finset.univ fun c : Fin 2 => bigSep Finset.univ fun i : Fin 16 => tilePts xb ib f d (wid c i) := by
  rw [bigSep_univ_equiv taskEquiv, bigSep_univ_prod]
  rfl

theorem st0_eq (d : Dev nD) : (bigSep Finset.univ fun c : Fin ((K (F := F)).nCore 0) => (P xb ib ob).st 0 d c)
    = iprop((iLoc d ↦{fullShare} ib d) ∗ (xLoc d ↦{fullShare} xb d) ∗ (oLoc d ↦{fullShare} ob d)) := by
  rw [whole_tiles, tiles_cores]; rfl
theorem dn0_eq (d : Dev nD) : (bigSep Finset.univ fun c : Fin ((K (F := F)).nCore 0) => (P xb ib ob).dn 0 d c)
    = iprop((iLoc d ↦{fullShare} ib d) ∗ (xLoc d ↦{fullShare} xb d) ∗ (oLoc d ↦{fullShare} outB xb ib d)) := by
  have h := (whole_tiles xb ib (outB xb ib) d).trans (tiles_cores xb ib (outB xb ib) d)
  unfold outB at h ⊢
  rw [h]; rfl

end Cert.Proof.Sc
-- ==== Proof.TcBody.lean ====
/-
  The body of the TensorCore call, point by point of its grid of twenty. Points 0 to 9 handle one block of hyperedges each:
  they leave the block's edge features and add the block's share to the running sums in the scratch buffers (point 0 first
  sets the scratch up). Points 10 to 19 handle one block of nodes each from the finished sums (point 10 first lays the row
  sums out as a column). Four statements, one for each way through the body's branches: each names only the buffers that
  way touches, and says exactly what it leaves in those it writes.
-/
module

public import proofs.«01_k».proof.Proof.Sc
public import Idealize.ShloMosaic.Lib.VecWindow
public import proofs.«01_k».proof.Proof.Gen.KernelIdeal.Points
public import Idealize.ShloMosaic.Lib.Pipeline.FrameBody

@[expose] public section

set_option maxRecDepth 16384

noncomputable section

namespace Cert.Proof.Tc

open Cert.KernelIdeal Cert.KernelIdeal.Gen
open Cert.Proof.Sc (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The branches -/

/-- The point handles a block of hyperedges. -/
abbrev edgePt (i : grid1.Coords) : Prop := k1_cond1 i = 1#1
/-- The point is the first. -/
abbrev firstPt (i : grid1.Coords) : Prop := (Scalar.cmpi .ne (Scalar.extui (Scalar.cmpi .eq (BitVec.ofNat 32 (i 0).val) 0#32)) 0#32) = 1#1
/-- The point handles a block of nodes. -/
abbrev nodePt (i : grid1.Coords) : Prop := k1_cond3 i = 1#1
/-- The point is the first that handles nodes. -/
abbrev turnPt (i : grid1.Coords) : Prop := (Scalar.cmpi .ne (Scalar.extui (Scalar.cmpi .eq (BitVec.ofNat 32 (i 0).val) 10#32)) 0#32) = 1#1

/-! ## What a point leaves, as functions of what it reads -/

/-- The unnormalized weights of one block of hyperedges. -/
abbrev pmOf (a : Vec F S200x10000 .f32) (xb : Vec F S10000x128 .bf16) (r : Vec F S200x128 .f32) (w3 : Vec F S128x128 .f32) (x4 : Vec F S10000x128 .f32) := k1_pay9 a xb r w3 x4
/-- The block's normalized weighted sums of node features. -/
abbrev erOf (a : Vec F S200x10000 .f32) (xb : Vec F S10000x128 .bf16) (r : Vec F S200x128 .f32) (w3 : Vec F S128x128 .f32) (x4 : Vec F S10000x128 .f32) := k1_pay10 a xb r w3 x4
/-- The block's edge features. -/
def eoutOf (a : Vec F S200x10000 .f32) (xb : Vec F S10000x128 .bf16) (r : Vec F S200x128 .f32) (w3 : Vec F S128x128 .f32) (x4 : Vec F S10000x128 .f32) (bs bb : Vec F S1x128 .f32) : Vec F S200x128 .f32 :=
  k1_pay1 (k1_pay11 a xb r w3 x4) bs bb
/-- The rows of the accumulated sums a node point reads. -/
def nrows (i : grid1.Coords) (h : nodePt i) (n : Vec F S10000x128 .f32) : Vec F S1000x128 .f32 :=
  View.ld n (Rect.unit (s := S10000x128) (k1_off2 i) S1000x128.size (k1_off2_inb i h))
/-- The entries of the column of row sums a node point reads. -/
def rrows (i : grid1.Coords) (h : nodePt i) (r : Vec F S10000x1 .f32) : Vec F S1000x1 .f32 :=
  View.ld r (Rect.unit (s := S10000x1) (k1_off1 i) S1000x1.size (k1_off1_inb i h))
/-- The block's fused node features. -/
def xoutOf (x : Vec F S1000x128 .f32) (r : Vec F S1000x1 .f32) (n : Vec F S1000x128 .f32) (bs bb : Vec F S1x128 .f32) (w1 : Vec F S128x128 .f32) (b1 w2 : Vec F S1x128 .f32) (b2 : Vec F S1x1 .f32) : Vec F S1000x128 .f32 :=
  k1_pay4 x (k1_pay13 r n bs bb) (k1_pay14 x w1 b1) (k1_pay15 w2) b2 w1 b1 w2 b2

/-- Where a node point's rows begin. -/
theorem off1_eq : ∀ i : grid1.Coords, nodePt i → k1_off1 i = ![1000 * ((i 0).val - 10), 0] := by decide +kernel
theorem off2_eq : ∀ i : grid1.Coords, nodePt i → k1_off2 i = ![1000 * ((i 0).val - 10), 0] := by decide +kernel

/-! ## The four ways through the body -/

variable (c : Dev nD) (i : grid1.Coords) (arg1 : Memref sig .tc .vmem S200x10000 .f32) (harg1 : arg1.IsWhole)
  (arg2 : Memref sig .tc .vmem S10000x128 .f32) (harg2 : arg2.IsWhole)
  (arg3 : Memref sig .tc .vmem S1000x128 .f32) (harg3 : arg3.IsWhole)
  (arg4 : Memref sig .tc .vmem S200x128 .f32) (harg4 : arg4.IsWhole)
  (arg5 : Memref sig .tc .vmem S128x128 .f32) (harg5 : arg5.IsWhole)
  (arg6 : Memref sig .tc .vmem S128x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S128x128 .f32) (harg9 : arg9.IsWhole)
  (arg10 : Memref sig .tc .vmem S1x128 .f32) (harg10 : arg10.IsWhole)
  (arg11 : Memref sig .tc .vmem S1x128 .f32) (harg11 : arg11.IsWhole)
  (arg12 : Memref sig .tc .vmem S1x1 .f32) (harg12 : arg12.IsWhole)
  (arg13 : Memref sig .tc .vmem S200x128 .f32) (harg13 : arg13.IsWhole)
  (arg14 : Memref sig .tc .vmem S1000x128 .f32) (harg14 : arg14.IsWhole)
  (arg15 : Memref sig .tc .vmem S10000x128 .bf16) (harg15 : arg15.IsWhole)
  (arg16 : Memref sig .tc .vmem S10000x128 .f32) (harg16 : arg16.IsWhole)
  (arg17 : Memref sig .tc .vmem S10000x128 .f32) (harg17 : arg17.IsWhole)
  (arg18 : Memref sig .tc .vmem S1x10000 .f32) (harg18 : arg18.IsWhole)
  (arg19 : Memref sig .tc .vmem S10000x1 .f32) (harg19 : arg19.IsWhole)

set_option maxHeartbeats 1600000 in
/-- A point that is the first of all: it sets the scratch up, then handles its block of hyperedges. -/
theorem body_first (h1 : edgePt i) (h2 : firstPt i) (h3 : ¬nodePt i)
    (x1 : Vec F S200x10000 .f32) (x2 : Vec F S10000x128 .f32) (x4 : Vec F S200x128 .f32) (x5 : Vec F S128x128 .f32) (x6 : Vec F S128x128 .f32) (x7 : Vec F S1x128 .f32) (x8 : Vec F S1x128 .f32) (E : Set ℕ) (Q : PUnit → sProp 𝕄) :
    iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg13 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
        ∗ (iprop(owns (c : Thread nD τ) arg1 fullShare x1 ∗ owns (c : Thread nD τ) arg2 fullShare x2 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg13 fullShare (eoutOf x1 (k1_pay5 x2) x4 x6 (k1_pay6 x2 x5) x7 x8) ∗ owns (c : Thread nD τ) arg15 fullShare (k1_pay5 x2) ∗ owns (c : Thread nD τ) arg16 fullShare (k1_pay6 x2 x5) ∗ owns (c : Thread nD τ) arg17 fullShare (k1_pay2 (pmOf x1 (k1_pay5 x2) x4 x6 (k1_pay6 x2 x5)) (erOf x1 (k1_pay5 x2) x4 x6 (k1_pay6 x2 x5)) k1_pay7) ∗ owns (c : Thread nD τ) arg18 fullShare (k1_pay3 (pmOf x1 (k1_pay5 x2) x4 x6 (k1_pay6 x2 x5)) k1_pay8)) -∗ Q ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  simp only [cc1__tc_body_eq_skeleton]; unfold cc1__tc_body_skel
  simp only [k1_part1_eq_skeleton]
  unfold owns
  iintro ⟨⟨%f1, %hf1, H1⟩, ⟨%f2, %hf2, H2⟩, ⟨%f4, %hf4, H4⟩, ⟨%f5, %hf5, H5⟩, ⟨%f6, %hf6, H6⟩, ⟨%f7, %hf7, H7⟩, ⟨%f8, %hf8, H8⟩, ⟨%d13, %f13, -, H13⟩, ⟨%d15, %f15, -, H15⟩, ⟨%d16, %f16, -, H16⟩, ⟨%d17, %f17, -, H17⟩, ⟨%d18, %f18, -, H18⟩, Hk⟩
  obtain rfl := harg1.eq_unread hf1; obtain rfl := harg2.eq_unread hf2; obtain rfl := harg4.eq_unread hf4; obtain rfl := harg5.eq_unread hf5; obtain rfl := harg6.eq_unread hf6; obtain rfl := harg7.eq_unread hf7; obtain rfl := harg8.eq_unread hf8
  have e1 : View.readAt (Elt F) arg1.view (Rect.unit ![0, 0] ![200, 10000] inb_S200x10000_S200x10000_0_0).toLoadRect (harg1.unread x1) = x1 :=
    (View.readAt_full _ _ _).trans (harg1.read_unread _)
  have e2 : View.readAt (Elt F) arg2.view (Rect.unit ![0, 0] ![10000, 128] inb_S10000x128_S10000x128_0_0).toLoadRect (harg2.unread x2) = x2 :=
    (View.readAt_full _ _ _).trans (harg2.read_unread _)
  have e4 : View.readAt (Elt F) arg4.view (Rect.unit ![0, 0] ![200, 128] inb_S200x128_S200x128_0_0).toLoadRect (harg4.unread x4) = x4 :=
    (View.readAt_full _ _ _).trans (harg4.read_unread _)
  have e5 : View.readAt (Elt F) arg5.view (Rect.unit ![0, 0] ![128, 128] inb_S128x128_S128x128_0_0).toLoadRect (harg5.unread x5) = x5 :=
    (View.readAt_full _ _ _).trans (harg5.read_unread _)
  have e6 : View.readAt (Elt F) arg6.view (Rect.unit ![0, 0] ![128, 128] inb_S128x128_S128x128_0_0).toLoadRect (harg6.unread x6) = x6 :=
    (View.readAt_full _ _ _).trans (harg6.read_unread _)
  have e7 : View.readAt (Elt F) arg7.view (Rect.unit ![0, 0] ![1, 128] inb_S1x128_S1x128_0_0).toLoadRect (harg7.unread x7) = x7 :=
    (View.readAt_full _ _ _).trans (harg7.read_unread _)
  have e8 : View.readAt (Elt F) arg8.view (Rect.unit ![0, 0] ![1, 128] inb_S1x128_S1x128_0_0).toLoadRect (harg8.unread x8) = x8 :=
    (View.readAt_full _ _ _).trans (harg8.read_unread _)
  sl_exec (disch := first | sl_exact h1 | sl_exact h2 | sl_exact h3)
  sl_step
  iapply Hk
  isplitl [H1]
  · iexists _; isplitr; · ipureintro; exact harg1.read_unread _
    iexact H1
  isplitl [H2]
  · iexists _; isplitr; · ipureintro; exact harg2.read_unread _
    iexact H2
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H13]
  · iexists _; isplitr; swap; · iexact H13
    ipureintro; rw [View.read_writes_full]; unfold body_first.sl.r_2; rw [show body_first.sl.v12 c arg15 x2 = k1_pay5 x2 from View.readCov_full _ _ _ _ _, show body_first.sl.v25 c arg16 x2 x5 = k1_pay6 x2 x5 from View.readCov_full _ _ _ _ _]; rfl
  isplitl [H15]
  · iexists _; isplitr; swap; · iexact H15
    ipureintro; exact View.read_writes_full _ _ _ _ _
  isplitl [H16]
  · iexists _; isplitr; swap; · iexact H16
    ipureintro; exact View.read_writes_full _ _ _ _ _
  isplitl [H17]
  · iexists _; isplitr; swap; · iexact H17
    ipureintro; rw [View.read_writes_full]; unfold body_first.sl.r body_first.sl.r_1 body_first.sl.v51; rw [show body_first.sl.v12 c arg15 x2 = k1_pay5 x2 from View.readCov_full _ _ _ _ _, show body_first.sl.v25 c arg16 x2 x5 = k1_pay6 x2 x5 from View.readCov_full _ _ _ _ _]; exact congrArg _ (View.readCov_full _ _ _ _ _)
  iexists _; isplitr; swap; · iexact H18
  ipureintro; rw [View.read_writes_full]; unfold body_first.sl.r body_first.sl.v57; rw [show body_first.sl.v12 c arg15 x2 = k1_pay5 x2 from View.readCov_full _ _ _ _ _, show body_first.sl.v25 c arg16 x2 x5 = k1_pay6 x2 x5 from View.readCov_full _ _ _ _ _]; exact congrArg _ (View.readCov_full _ _ _ _ _)

set_option maxHeartbeats 1600000 in
/-- A later point that handles a block of hyperedges. -/
theorem body_edge (h1 : edgePt i) (h2 : ¬firstPt i) (h3 : ¬nodePt i)
    (x1 : Vec F S200x10000 .f32) (x4 : Vec F S200x128 .f32) (x6 : Vec F S128x128 .f32) (x7 : Vec F S1x128 .f32) (x8 : Vec F S1x128 .f32) (x15 : Vec F S10000x128 .bf16) (x16 : Vec F S10000x128 .f32) (x17 : Vec F S10000x128 .f32) (x18 : Vec F S1x10000 .f32) (E : Set ℕ) (Q : PUnit → sProp 𝕄) :
    iprop(owns (c : Thread nD τ) arg1 fullShare x1 ∗ owns (c : Thread nD τ) arg4 fullShare x4 ∗ owns (c : Thread nD τ) arg6 fullShare x6 ∗ owns (c : Thread nD τ) arg7 fullShare x7 ∗ owns (c : Thread nD τ) arg8 fullShare x8 ∗ (∃ d, owns (c : Thread nD τ) arg13 fullShare d) ∗ owns (c : Thread nD τ) arg15 fullShare x15 ∗ owns (c : Thread nD τ) arg16 fullShare x16 ∗ owns (c : Thread nD τ) arg17 fullShare x17 ∗ owns (c : Thread nD τ) arg18 fullShare x18
        ∗ (iprop(owns (c : Thread nD τ) arg1 fullShare x1 ∗ owns (c : Thread nD τ) arg4 fullShare x4 ∗ owns (c : Thread nD τ) arg6 fullShare x6 ∗ owns (c : Thread nD τ) arg7 fullShare x7 ∗ owns (c : Thread nD τ) arg8 fullShare x8 ∗ owns (c : Thread nD τ) arg13 fullShare (eoutOf x1 x15 x4 x6 x16 x7 x8) ∗ owns (c : Thread nD τ) arg15 fullShare x15 ∗ owns (c : Thread nD τ) arg16 fullShare x16 ∗ owns (c : Thread nD τ) arg17 fullShare (k1_pay2 (pmOf x1 x15 x4 x6 x16) (erOf x1 x15 x4 x6 x16) x17) ∗ owns (c : Thread nD τ) arg18 fullShare (k1_pay3 (pmOf x1 x15 x4 x6 x16) x18)) -∗ Q ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  simp only [cc1__tc_body_eq_skeleton]; unfold cc1__tc_body_skel
  simp only [k1_part1_eq_skeleton]
  unfold owns
  iintro ⟨⟨%f1, %hf1, H1⟩, ⟨%f4, %hf4, H4⟩, ⟨%f6, %hf6, H6⟩, ⟨%f7, %hf7, H7⟩, ⟨%f8, %hf8, H8⟩, ⟨%d13, %f13, -, H13⟩, ⟨%f15, %hf15, H15⟩, ⟨%f16, %hf16, H16⟩, ⟨%f17, %hf17, H17⟩, ⟨%f18, %hf18, H18⟩, Hk⟩
  obtain rfl := harg1.eq_unread hf1; obtain rfl := harg4.eq_unread hf4; obtain rfl := harg6.eq_unread hf6; obtain rfl := harg7.eq_unread hf7; obtain rfl := harg8.eq_unread hf8; obtain rfl := harg15.eq_unread hf15; obtain rfl := harg16.eq_unread hf16; obtain rfl := harg17.eq_unread hf17; obtain rfl := harg18.eq_unread hf18
  have e1 : View.readAt (Elt F) arg1.view (Rect.unit ![0, 0] ![200, 10000] inb_S200x10000_S200x10000_0_0).toLoadRect (harg1.unread x1) = x1 :=
    (View.readAt_full _ _ _).trans (harg1.read_unread _)
  have e4 : View.readAt (Elt F) arg4.view (Rect.unit ![0, 0] ![200, 128] inb_S200x128_S200x128_0_0).toLoadRect (harg4.unread x4) = x4 :=
    (View.readAt_full _ _ _).trans (harg4.read_unread _)
  have e6 : View.readAt (Elt F) arg6.view (Rect.unit ![0, 0] ![128, 128] inb_S128x128_S128x128_0_0).toLoadRect (harg6.unread x6) = x6 :=
    (View.readAt_full _ _ _).trans (harg6.read_unread _)
  have e7 : View.readAt (Elt F) arg7.view (Rect.unit ![0, 0] ![1, 128] inb_S1x128_S1x128_0_0).toLoadRect (harg7.unread x7) = x7 :=
    (View.readAt_full _ _ _).trans (harg7.read_unread _)
  have e8 : View.readAt (Elt F) arg8.view (Rect.unit ![0, 0] ![1, 128] inb_S1x128_S1x128_0_0).toLoadRect (harg8.unread x8) = x8 :=
    (View.readAt_full _ _ _).trans (harg8.read_unread _)
  have e15 : View.readAt (Elt F) arg15.view (Rect.unit ![0, 0] ![10000, 128] inb_S10000x128_S10000x128_0_0).toLoadRect (harg15.unread x15) = x15 :=
    (View.readAt_full _ _ _).trans (harg15.read_unread _)
  have e16 : View.readAt (Elt F) arg16.view (Rect.unit ![0, 0] ![10000, 128] inb_S10000x128_S10000x128_0_0).toLoadRect (harg16.unread x16) = x16 :=
    (View.readAt_full _ _ _).trans (harg16.read_unread _)
  have e17 : View.readAt (Elt F) arg17.view (Rect.unit ![0, 0] ![10000, 128] inb_S10000x128_S10000x128_0_0).toLoadRect (harg17.unread x17) = x17 :=
    (View.readAt_full _ _ _).trans (harg17.read_unread _)
  have e18 : View.readAt (Elt F) arg18.view (Rect.unit ![0, 0] ![1, 10000] inb_S1x10000_S1x10000_0_0).toLoadRect (harg18.unread x18) = x18 :=
    (View.readAt_full _ _ _).trans (harg18.read_unread _)
  sl_exec (disch := first | sl_exact h1 | sl_exact h2 | sl_exact h3)
  sl_step
  iapply Hk
  isplitl [H1]
  · iexists _; isplitr; · ipureintro; exact harg1.read_unread _
    iexact H1
  isplitl [H4]
  · iexists _; isplitr; · ipureintro; exact harg4.read_unread _
    iexact H4
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H13]
  · iexists _; isplitr; swap; · iexact H13
    ipureintro; exact View.read_writes_full _ _ _ _ _
  isplitl [H15]
  · iexists _; isplitr; · ipureintro; exact harg15.read_unread _
    iexact H15
  isplitl [H16]
  · iexists _; isplitr; · ipureintro; exact harg16.read_unread _
    iexact H16
  isplitl [H17]
  · iexists _; isplitr; swap; · iexact H17
    ipureintro; exact View.read_writes_full _ _ _ _ _
  iexists _; isplitr; swap; · iexact H18
  ipureintro; exact View.read_writes_full _ _ _ _ _

set_option maxHeartbeats 1600000 in
/-- The first point that handles nodes: it lays the row sums out as a column, then handles its block. -/
theorem body_turn (h1 : ¬edgePt i) (h3 : nodePt i) (h4 : turnPt i)
    (x3 : Vec F S1000x128 .f32) (x7 : Vec F S1x128 .f32) (x8 : Vec F S1x128 .f32) (x9 : Vec F S128x128 .f32) (x10 : Vec F S1x128 .f32) (x11 : Vec F S1x128 .f32) (x12 : Vec F S1x1 .f32) (x17 : Vec F S10000x128 .f32) (x18 : Vec F S1x10000 .f32) (E : Set ℕ) (Q : PUnit → sProp 𝕄) :
    iprop(owns (c : Thread nD τ) arg3 fullShare x3 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg14 fullShare d) ∗ owns (c : Thread nD τ) arg17 fullShare x17 ∗ owns (c : Thread nD τ) arg18 fullShare x18 ∗ (∃ d, owns (c : Thread nD τ) arg19 fullShare d)
        ∗ (iprop(owns (c : Thread nD τ) arg3 fullShare x3 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg14 fullShare (xoutOf x3 (rrows i h3 (k1_pay12 x18)) (nrows i h3 x17) x7 x8 x9 x10 x11 x12) ∗ owns (c : Thread nD τ) arg17 fullShare x17 ∗ owns (c : Thread nD τ) arg18 fullShare x18 ∗ owns (c : Thread nD τ) arg19 fullShare (k1_pay12 x18)) -∗ Q ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  simp only [cc1__tc_body_eq_skeleton]; unfold cc1__tc_body_skel
  simp only [k1_part2_eq_skeleton]
  unfold owns
  iintro ⟨⟨%f3, %hf3, H3⟩, ⟨%f7, %hf7, H7⟩, ⟨%f8, %hf8, H8⟩, ⟨%f9, %hf9, H9⟩, ⟨%f10, %hf10, H10⟩, ⟨%f11, %hf11, H11⟩, ⟨%f12, %hf12, H12⟩, ⟨%d14, %f14, -, H14⟩, ⟨%f17, %hf17, H17⟩, ⟨%f18, %hf18, H18⟩, ⟨%d19, %f19, -, H19⟩, Hk⟩
  obtain rfl := harg3.eq_unread hf3; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg17.eq_unread hf17; obtain rfl := harg18.eq_unread hf18
  letI : ClosedOff (k1_off1 i) := ⟨![1000 * ((i 0).val - 10), 0], off1_eq i h3⟩
  letI : ClosedOff (k1_off2 i) := ⟨![1000 * ((i 0).val - 10), 0], off2_eq i h3⟩
  have e3 : View.readAt (Elt F) arg3.view (Rect.unit ![0, 0] ![1000, 128] inb_S1000x128_S1000x128_0_0).toLoadRect (harg3.unread x3) = x3 :=
    (View.readAt_full _ _ _).trans (harg3.read_unread _)
  have e7 : View.readAt (Elt F) arg7.view (Rect.unit ![0, 0] ![1, 128] inb_S1x128_S1x128_0_0).toLoadRect (harg7.unread x7) = x7 :=
    (View.readAt_full _ _ _).trans (harg7.read_unread _)
  have e8 : View.readAt (Elt F) arg8.view (Rect.unit ![0, 0] ![1, 128] inb_S1x128_S1x128_0_0).toLoadRect (harg8.unread x8) = x8 :=
    (View.readAt_full _ _ _).trans (harg8.read_unread _)
  have e9 : View.readAt (Elt F) arg9.view (Rect.unit ![0, 0] ![128, 128] inb_S128x128_S128x128_0_0).toLoadRect (harg9.unread x9) = x9 :=
    (View.readAt_full _ _ _).trans (harg9.read_unread _)
  have e10 : View.readAt (Elt F) arg10.view (Rect.unit ![0, 0] ![1, 128] inb_S1x128_S1x128_0_0).toLoadRect (harg10.unread x10) = x10 :=
    (View.readAt_full _ _ _).trans (harg10.read_unread _)
  have e11 : View.readAt (Elt F) arg11.view (Rect.unit ![0, 0] ![1, 128] inb_S1x128_S1x128_0_0).toLoadRect (harg11.unread x11) = x11 :=
    (View.readAt_full _ _ _).trans (harg11.read_unread _)
  have e12 : View.readAt (Elt F) arg12.view (Rect.unit ![0, 0] ![1, 1] inb_S1x1_S1x1_0_0).toLoadRect (harg12.unread x12) = x12 :=
    (View.readAt_full _ _ _).trans (harg12.read_unread _)
  have e17 : View.readAt (Elt F) arg17.view (Rect.unit ![0, 0] ![10000, 128] inb_S10000x128_S10000x128_0_0).toLoadRect (harg17.unread x17) = x17 :=
    (View.readAt_full _ _ _).trans (harg17.read_unread _)
  have e18 : View.readAt (Elt F) arg18.view (Rect.unit ![0, 0] ![1, 10000] inb_S1x10000_S1x10000_0_0).toLoadRect (harg18.unread x18) = x18 :=
    (View.readAt_full _ _ _).trans (harg18.read_unread _)
  have n17 : View.readAt (Elt F) arg17.view (Rect.unit (s := S10000x128) (k1_off2 i) S1000x128.size (k1_off2_inb i h3)).toLoadRect (harg17.unread x17) = nrows i h3 x17 := by
    rw [View.readAt_eq_ld, harg17.read_unread]; rfl
  sl_exec (disch := first | sl_exact h1 | sl_exact h3 | sl_exact h4)
  sl_step
  iapply Hk
  isplitl [H3]
  · iexists _; isplitr; · ipureintro; exact harg3.read_unread _
    iexact H3
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H14]
  · iexists _; isplitr; swap; · iexact H14
    ipureintro; rw [View.read_writes_full]; unfold body_turn.sl.r; rw [View.readAt_eq_ld]; unfold body_turn.sl.H19_1; rw [View.read_writes_full]; rfl
  isplitl [H17]
  · iexists _; isplitr; · ipureintro; exact harg17.read_unread _
    iexact H17
  isplitl [H18]
  · iexists _; isplitr; · ipureintro; exact harg18.read_unread _
    iexact H18
  iexists _; isplitr; swap; · iexact H19
  ipureintro; exact View.read_writes_full _ _ _ _ _

set_option maxHeartbeats 1600000 in
/-- A later point that handles a block of nodes. -/
theorem body_node (h1 : ¬edgePt i) (h3 : nodePt i) (h4 : ¬turnPt i)
    (x3 : Vec F S1000x128 .f32) (x7 : Vec F S1x128 .f32) (x8 : Vec F S1x128 .f32) (x9 : Vec F S128x128 .f32) (x10 : Vec F S1x128 .f32) (x11 : Vec F S1x128 .f32) (x12 : Vec F S1x1 .f32) (x17 : Vec F S10000x128 .f32) (x19 : Vec F S10000x1 .f32) (E : Set ℕ) (Q : PUnit → sProp 𝕄) :
    iprop(owns (c : Thread nD τ) arg3 fullShare x3 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ d, owns (c : Thread nD τ) arg14 fullShare d) ∗ owns (c : Thread nD τ) arg17 fullShare x17 ∗ owns (c : Thread nD τ) arg19 fullShare x19
        ∗ (iprop(owns (c : Thread nD τ) arg3 fullShare x3 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg14 fullShare (xoutOf x3 (rrows i h3 x19) (nrows i h3 x17) x7 x8 x9 x10 x11 x12) ∗ owns (c : Thread nD τ) arg17 fullShare x17 ∗ owns (c : Thread nD τ) arg19 fullShare x19) -∗ Q ⟨⟩))
      ⊢ wp frame (wpE (defs₀ (F := F)) Variants.none c none) E (cc1__tc_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) Q := by
  simp only [cc1__tc_body_eq_skeleton]; unfold cc1__tc_body_skel
  simp only [k1_part2_eq_skeleton]
  unfold owns
  iintro ⟨⟨%f3, %hf3, H3⟩, ⟨%f7, %hf7, H7⟩, ⟨%f8, %hf8, H8⟩, ⟨%f9, %hf9, H9⟩, ⟨%f10, %hf10, H10⟩, ⟨%f11, %hf11, H11⟩, ⟨%f12, %hf12, H12⟩, ⟨%d14, %f14, -, H14⟩, ⟨%f17, %hf17, H17⟩, ⟨%f19, %hf19, H19⟩, Hk⟩
  obtain rfl := harg3.eq_unread hf3; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg17.eq_unread hf17; obtain rfl := harg19.eq_unread hf19
  letI : ClosedOff (k1_off1 i) := ⟨![1000 * ((i 0).val - 10), 0], off1_eq i h3⟩
  letI : ClosedOff (k1_off2 i) := ⟨![1000 * ((i 0).val - 10), 0], off2_eq i h3⟩
  have e3 : View.readAt (Elt F) arg3.view (Rect.unit ![0, 0] ![1000, 128] inb_S1000x128_S1000x128_0_0).toLoadRect (harg3.unread x3) = x3 :=
    (View.readAt_full _ _ _).trans (harg3.read_unread _)
  have e7 : View.readAt (Elt F) arg7.view (Rect.unit ![0, 0] ![1, 128] inb_S1x128_S1x128_0_0).toLoadRect (harg7.unread x7) = x7 :=
    (View.readAt_full _ _ _).trans (harg7.read_unread _)
  have e8 : View.readAt (Elt F) arg8.view (Rect.unit ![0, 0] ![1, 128] inb_S1x128_S1x128_0_0).toLoadRect (harg8.unread x8) = x8 :=
    (View.readAt_full _ _ _).trans (harg8.read_unread _)
  have e9 : View.readAt (Elt F) arg9.view (Rect.unit ![0, 0] ![128, 128] inb_S128x128_S128x128_0_0).toLoadRect (harg9.unread x9) = x9 :=
    (View.readAt_full _ _ _).trans (harg9.read_unread _)
  have e10 : View.readAt (Elt F) arg10.view (Rect.unit ![0, 0] ![1, 128] inb_S1x128_S1x128_0_0).toLoadRect (harg10.unread x10) = x10 :=
    (View.readAt_full _ _ _).trans (harg10.read_unread _)
  have e11 : View.readAt (Elt F) arg11.view (Rect.unit ![0, 0] ![1, 128] inb_S1x128_S1x128_0_0).toLoadRect (harg11.unread x11) = x11 :=
    (View.readAt_full _ _ _).trans (harg11.read_unread _)
  have e12 : View.readAt (Elt F) arg12.view (Rect.unit ![0, 0] ![1, 1] inb_S1x1_S1x1_0_0).toLoadRect (harg12.unread x12) = x12 :=
    (View.readAt_full _ _ _).trans (harg12.read_unread _)
  have e17 : View.readAt (Elt F) arg17.view (Rect.unit ![0, 0] ![10000, 128] inb_S10000x128_S10000x128_0_0).toLoadRect (harg17.unread x17) = x17 :=
    (View.readAt_full _ _ _).trans (harg17.read_unread _)
  have e19 : View.readAt (Elt F) arg19.view (Rect.unit ![0, 0] ![10000, 1] inb_S10000x1_S10000x1_0_0).toLoadRect (harg19.unread x19) = x19 :=
    (View.readAt_full _ _ _).trans (harg19.read_unread _)
  have n17 : View.readAt (Elt F) arg17.view (Rect.unit (s := S10000x128) (k1_off2 i) S1000x128.size (k1_off2_inb i h3)).toLoadRect (harg17.unread x17) = nrows i h3 x17 := by
    rw [View.readAt_eq_ld, harg17.read_unread]; rfl
  have n19 : View.readAt (Elt F) arg19.view (Rect.unit (s := S10000x1) (k1_off1 i) S1000x1.size (k1_off1_inb i h3)).toLoadRect (harg19.unread x19) = rrows i h3 x19 := by
    rw [View.readAt_eq_ld, harg19.read_unread]; rfl
  sl_exec (disch := first | sl_exact h1 | sl_exact h3 | sl_exact h4)
  sl_step
  iapply Hk
  isplitl [H3]
  · iexists _; isplitr; · ipureintro; exact harg3.read_unread _
    iexact H3
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; · ipureintro; exact harg12.read_unread _
    iexact H12
  isplitl [H14]
  · iexists _; isplitr; swap; · iexact H14
    ipureintro; exact View.read_writes_full _ _ _ _ _
  isplitl [H17]
  · iexists _; isplitr; · ipureintro; exact harg17.read_unread _
    iexact H17
  iexists _; isplitr; · ipureintro; exact harg19.read_unread _
  iexact H19

end Cert.Proof.Tc

end
-- ==== Proof.TcData.lean ====
/-
  The TensorCore call's run data: what each window's buffer and each scratch buffer holds from point to point, as
  functions of the arrays the call finds, and that the body keeps to them at every point.
-/
module

public import proofs.«01_k».proof.Proof.TcBody
public import Idealize.ShloMosaic.Lib.Pipeline.RegionArrays

@[expose] public section

set_option maxRecDepth 16384

noncomputable section

namespace Cert.Proof.Tc

open Cert.KernelIdeal Cert.KernelIdeal.Gen
open Cert.Proof.Sc (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ
local notation "DatT" => Dat τ (Elt F) (HIx 1) ℕ UU ℕ cfg1

-- The core's arrays as the call finds them.
variable (V : (c : Dev nD) → (b : Ref sig .tc) → Buf (Elt F) ((c : Thread nD τ).loc b))

/-! ## Blocks -/

/-- Window `w`'s block at point `t`, read off its array. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A filler no one reads: window 3's blocks are never cut short, so a fetch always fills its buffer. -/
def fill3 : (cfg1.win 3).block.Idx → Elt F (cfg1.win 3).elt := fun _ => Classical.choice inferInstance
/-- Window 3's block at point `t`, as its buffer holds it. -/
def rblk (c : Dev nD) (t : Fin cfg1.N) : (cfg1.win 3).block.Idx → Elt F (cfg1.win 3).elt :=
  (cfg1.win 3).fill (cfg1.grid.coords t) fill3 (iblk V c 3 t)
theorem xsize3 : ∀ t : Fin cfg1.N, ∀ a, (cfg1.win 3).xsize (cfg1.grid.coords t) a = (cfg1.win 3).size a := by decide +kernel
theorem moved3 (t : Fin cfg1.N) (j : (cfg1.win 3).block.Idx) : (cfg1.win 3).moved (cfg1.grid.coords t) j = true :=
  ((cfg1.win 3).moved_iff _ j).mpr fun a => by rw [xsize3 t a]; exact (j a).isLt
theorem fill3_eq (t : Fin cfg1.N) (d d' : (cfg1.win 3).block.Idx → Elt F (cfg1.win 3).elt) (g) :
    (cfg1.win 3).fill (cfg1.grid.coords t) d g = (cfg1.win 3).fill (cfg1.grid.coords t) d' g := by
  funext j; unfold Pipeline.Window.fill; rw [dif_pos (moved3 t j), dif_pos (moved3 t j)]

/-! ## What the scratch and the outputs hold -/

/-- The `n`-th point. -/
def pt (n : ℕ) : Fin cfg1.N := ⟨n % 20, lt_of_lt_of_eq (Nat.mod_lt _ (by omega)) (show (20 : ℕ) = cfg1.N from N_1.symm)⟩
theorem pt_val (t : Fin cfg1.N) : pt t.val = t := Fin.ext (Nat.mod_eq_of_lt (lt_of_lt_of_eq t.isLt (show cfg1.N = 20 from N_1)))

/-- The node features, rounded once at the start. -/
def xbf (c : Dev nD) : Vec F S10000x128 .bf16 := k1_pay5 (iblk V c 1 (pt 0))
/-- The nodes' projected features. -/
def x4a (c : Dev nD) : Vec F S10000x128 .f32 := k1_pay6 (iblk V c 1 (pt 0)) (iblk V c 4 (pt 0))
/-- Block `n`'s weights. -/
def pm (c : Dev nD) (n : ℕ) : FVec F S200x10000 .bf16 := pmOf (iblk V c 0 (pt n)) (xbf V c) (rblk V c (pt n)) (iblk V c 5 (pt n)) (x4a V c)
/-- Block `n`'s normalized sums. -/
def er (c : Dev nD) (n : ℕ) : FVec F S200x128 .f32 := erOf (iblk V c 0 (pt n)) (xbf V c) (rblk V c (pt n)) (iblk V c 5 (pt n)) (x4a V c)
/-- Block `n`'s edge features. -/
def eout (c : Dev nD) (n : ℕ) : Vec F S200x128 .f32 :=
  eoutOf (iblk V c 0 (pt n)) (xbf V c) (rblk V c (pt n)) (iblk V c 5 (pt n)) (x4a V c) (iblk V c 6 (pt n)) (iblk V c 7 (pt n))
/-- The weighted sums over the first `n` blocks. -/
def nacc (c : Dev nD) : ℕ → Vec F S10000x128 .f32
  | 0 => k1_pay7
  | n + 1 => k1_pay2 (pm V c n) (er V c n) (nacc c n)
/-- The weights' sums over the first `n` blocks. -/
def rsum (c : Dev nD) : ℕ → Vec F S1x10000 .f32
  | 0 => k1_pay8
  | n + 1 => k1_pay3 (pm V c n) (rsum c n)
/-- The finished sums as a column. -/
def rcol (c : Dev nD) : Vec F S10000x1 .f32 := k1_pay12 (rsum V c 10)
/-- The node block's fused features at point `t`. -/
def xout (c : Dev nD) (t : Fin cfg1.N) : Vec F S1000x128 .f32 :=
  if h : nodePt (grid1.coords t) then
    xoutOf (iblk V c 2 t) (rrows (grid1.coords t) h (rcol V c)) (nrows (grid1.coords t) h (nacc V c 10)) (iblk V c 6 t) (iblk V c 7 t)
      (iblk V c 8 t) (iblk V c 9 t) (iblk V c 10 t) (iblk V c 11 t)
  else iblk V c 2 t

abbrev scM0 : Memref sig .tc .vmem S10000x128 .bf16 := Memref.whole cc1_scratch0
abbrev scM1 : Memref sig .tc .vmem S10000x128 .f32 := Memref.whole cc1_scratch1
abbrev scM2 : Memref sig .tc .vmem S10000x128 .f32 := Memref.whole cc1_scratch2
abbrev scM3 : Memref sig .tc .vmem S1x10000 .f32 := Memref.whole cc1_scratch3
abbrev scM4 : Memref sig .tc .vmem S10000x1 .f32 := Memref.whole cc1_scratch4

/-- The scratch before the first point: anything. -/
def scrAny (c : Dev nD) : sProp 𝕄 :=
  iprop((∃ d, owns (c : Thread nD τ) scM0 fullShare d) ∗ (∃ d, owns (c : Thread nD τ) scM1 fullShare d) ∗ (∃ d, owns (c : Thread nD τ) scM2 fullShare d) ∗ (∃ d, owns (c : Thread nD τ) scM3 fullShare d) ∗ (∃ d, owns (c : Thread nD τ) scM4 fullShare d))
/-- The scratch after `n` of the hyperedge points. -/
def scrEdge (c : Dev nD) (n : ℕ) : sProp 𝕄 :=
  iprop(owns (c : Thread nD τ) scM0 fullShare (xbf V c) ∗ owns (c : Thread nD τ) scM1 fullShare (x4a V c) ∗ owns (c : Thread nD τ) scM2 fullShare (nacc V c n) ∗ owns (c : Thread nD τ) scM3 fullShare (rsum V c n) ∗ (∃ d, owns (c : Thread nD τ) scM4 fullShare d))
/-- The scratch after a node point. -/
def scrNode (c : Dev nD) : sProp 𝕄 :=
  iprop(owns (c : Thread nD τ) scM0 fullShare (xbf V c) ∗ owns (c : Thread nD τ) scM1 fullShare (x4a V c) ∗ owns (c : Thread nD τ) scM2 fullShare (nacc V c 10) ∗ owns (c : Thread nD τ) scM3 fullShare (rsum V c 10) ∗ owns (c : Thread nD τ) scM4 fullShare (rcol V c))
/-- The scratch before point `n`. -/
def scr (c : Dev nD) (n : ℕ) : sProp 𝕄 :=
  if n = 0 then scrAny c else if n ≤ 10 then scrEdge V c n else scrNode V c

/-- The scratch buffers are exactly the scoped buffers no window stages. -/
theorem scopedRest_scr (c : Dev nD) : (Pipeline.scopedRest spec1 c : sProp 𝕄) = scrAny c := by
  unfold scrAny; rw [scopedRest1_eq]; simp only [scM0, scM1, scM2, scM3, scM4, owns_whole]; try rfl

/-! ## The run data -/

/-- Windows 1 and 2 are on one array, each on half of it; every other input window holds its array outright. -/
def shareQ (w : Fin cfg1.W) : PosShare TreeShare := Pipeline.shareOf spec1 w

def dats (_ : Fin 1) (c : Dev nD) : DatT c where
  A w := V c (Pipeline.arrRef spec1 w)
  after w t := match w with
    | ⟨0, _⟩ => iblk V c 0 t
    | ⟨1, _⟩ => iblk V c 1 t
    | ⟨2, _⟩ => iblk V c 2 t
    | ⟨3, _⟩ => rblk V c t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => eout V c (min t.val 9)
    | ⟨13, _⟩ => xout V c t
  Φ t := scr V c t.val
  q w := shareQ w
  owed _ := 0

theorem A_eq (c : Dev nD) (w : Fin cfg1.W) : (dats V 0 c).A w = V c (Pipeline.arrRef spec1 w) := by
  dsimp only [dats]

theorem Phi_castSucc (c : Dev nD) (t : Fin cfg1.N) : (dats V 0 c).Φ t.castSucc = scr V c t.val := by
  dsimp only [dats]; exact Pipeline.Dat.Φ_castSucc (fun n _ => scr V c n) t

theorem after_0 (c : Dev nD) (t : Fin cfg1.N) : (dats V 0 c).after 0 t = iblk V c 0 t := by dsimp only [dats]
theorem after_1 (c : Dev nD) (t : Fin cfg1.N) : (dats V 0 c).after 1 t = iblk V c 1 t := by dsimp only [dats]
theorem after_2 (c : Dev nD) (t : Fin cfg1.N) : (dats V 0 c).after 2 t = iblk V c 2 t := by dsimp only [dats]
theorem after_3 (c : Dev nD) (t : Fin cfg1.N) : (dats V 0 c).after 3 t = rblk V c t := by dsimp only [dats]
theorem after_4 (c : Dev nD) (t : Fin cfg1.N) : (dats V 0 c).after 4 t = iblk V c 4 t := by dsimp only [dats]
theorem after_5 (c : Dev nD) (t : Fin cfg1.N) : (dats V 0 c).after 5 t = iblk V c 5 t := by dsimp only [dats]
theorem after_6 (c : Dev nD) (t : Fin cfg1.N) : (dats V 0 c).after 6 t = iblk V c 6 t := by dsimp only [dats]
theorem after_7 (c : Dev nD) (t : Fin cfg1.N) : (dats V 0 c).after 7 t = iblk V c 7 t := by dsimp only [dats]
theorem after_8 (c : Dev nD) (t : Fin cfg1.N) : (dats V 0 c).after 8 t = iblk V c 8 t := by dsimp only [dats]
theorem after_9 (c : Dev nD) (t : Fin cfg1.N) : (dats V 0 c).after 9 t = iblk V c 9 t := by dsimp only [dats]
theorem after_10 (c : Dev nD) (t : Fin cfg1.N) : (dats V 0 c).after 10 t = iblk V c 10 t := by dsimp only [dats]
theorem after_11 (c : Dev nD) (t : Fin cfg1.N) : (dats V 0 c).after 11 t = iblk V c 11 t := by dsimp only [dats]
theorem after_12 (c : Dev nD) (t : Fin cfg1.N) : (dats V 0 c).after 12 t = eout V c (min t.val 9) := by dsimp only [dats]
theorem after_13 (c : Dev nD) (t : Fin cfg1.N) : (dats V 0 c).after 13 t = xout V c t := by dsimp only [dats]

/-! Each input's buffer holds its block at every point, fetched there or not. -/

theorem before_0 (c : Dev nD) (t : Fin cfg1.N) (d) : (dats V 0 c).before 0 t d = iblk V c 0 t :=
  ((dats V 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg1.N) (d) : (dats V 0 c).before 1 t d = iblk V c 1 t :=
  ((dats V 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg1.N) (d) : (dats V 0 c).before 2 t d = iblk V c 2 t :=
  ((dats V 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg1.N) (d) : (dats V 0 c).before 3 t d = rblk V c t :=
  ((dats V 0 c).before_in_eq_fetched 3 rfl (fun _ => rfl)
      (fun t t' h => funext fun a => congrArg (fun n => Pipeline.Clip.of n ((cfg1.win 3).size a) (S2048x128.size a)) (congrFun h a))
      (fun t => by rw [after_3]; unfold rblk; rw [Pipeline.Window.cut_fill]; unfold Dat.blockOf iblk; rw [A_eq]; try rfl) t d).trans
    (by unfold Dat.fetched rblk; rw [fill3_eq t d fill3]; unfold Dat.blockOf iblk; rw [A_eq]; try rfl)
theorem before_4 (c : Dev nD) (t : Fin cfg1.N) (d) : (dats V 0 c).before 4 t d = iblk V c 4 t :=
  ((dats V 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg1.N) (d) : (dats V 0 c).before 5 t d = iblk V c 5 t :=
  ((dats V 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin cfg1.N) (d) : (dats V 0 c).before 6 t d = iblk V c 6 t :=
  ((dats V 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem before_7 (c : Dev nD) (t : Fin cfg1.N) (d) : (dats V 0 c).before 7 t d = iblk V c 7 t :=
  ((dats V 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)
theorem before_8 (c : Dev nD) (t : Fin cfg1.N) (d) : (dats V 0 c).before 8 t d = iblk V c 8 t :=
  ((dats V 0 c).before_in_eq_fetched 8 rfl (fun _ => rfl) (fun _ _ _ => rfl) (fun t => by rw [after_8]; unfold Dat.blockOf iblk; rw [A_eq]; try rfl) t d).trans
    (by unfold Dat.fetched Dat.blockOf iblk; rw [A_eq]; try rfl)
theorem before_9 (c : Dev nD) (t : Fin cfg1.N) (d) : (dats V 0 c).before 9 t d = iblk V c 9 t :=
  ((dats V 0 c).before_in_eq_fetched 9 rfl (fun _ => rfl) (fun _ _ _ => rfl) (fun t => by rw [after_9]; unfold Dat.blockOf iblk; rw [A_eq]; try rfl) t d).trans
    (by unfold Dat.fetched Dat.blockOf iblk; rw [A_eq]; try rfl)
theorem before_10 (c : Dev nD) (t : Fin cfg1.N) (d) : (dats V 0 c).before 10 t d = iblk V c 10 t :=
  ((dats V 0 c).before_in_eq_fetched 10 rfl (fun _ => rfl) (fun _ _ _ => rfl) (fun t => by rw [after_10]; unfold Dat.blockOf iblk; rw [A_eq]; try rfl) t d).trans
    (by unfold Dat.fetched Dat.blockOf iblk; rw [A_eq]; try rfl)
theorem before_11 (c : Dev nD) (t : Fin cfg1.N) (d) : (dats V 0 c).before 11 t d = iblk V c 11 t :=
  ((dats V 0 c).before_in_eq_fetched 11 rfl (fun _ => rfl) (fun _ _ _ => rfl) (fun t => by rw [after_11]; unfold Dat.blockOf iblk; rw [A_eq]; try rfl) t d).trans
    (by unfold Dat.fetched Dat.blockOf iblk; rw [A_eq]; try rfl)

/-! ## Which points are which -/

theorem edgePt_iff : ∀ t : Fin cfg1.N, edgePt (grid1.coords t) ↔ t.val < 10 :=
  (by decide +kernel : ∀ t : Fin grid1.N, edgePt (grid1.coords t) ↔ t.val < 10)
theorem firstPt_iff : ∀ t : Fin cfg1.N, firstPt (grid1.coords t) ↔ t.val = 0 :=
  (by decide +kernel : ∀ t : Fin grid1.N, firstPt (grid1.coords t) ↔ t.val = 0)
theorem nodePt_iff : ∀ t : Fin cfg1.N, nodePt (grid1.coords t) ↔ 10 ≤ t.val :=
  (by decide +kernel : ∀ t : Fin grid1.N, nodePt (grid1.coords t) ↔ 10 ≤ t.val)
theorem turnPt_iff : ∀ t : Fin cfg1.N, turnPt (grid1.coords t) ↔ t.val = 10 :=
  (by decide +kernel : ∀ t : Fin grid1.N, turnPt (grid1.coords t) ↔ t.val = 10)
theorem idle_12 : ∀ t : Fin cfg1.N, cfg1.idle 12 (grid1.coords t) = decide (10 ≤ t.val) :=
  (by decide +kernel : ∀ t : Fin grid1.N, cfg1.idle 12 (grid1.coords t) = decide (10 ≤ t.val))
theorem idle_13 : ∀ t : Fin cfg1.N, cfg1.idle 13 (grid1.coords t) = decide (t.val < 10) :=
  (by decide +kernel : ∀ t : Fin grid1.N, cfg1.idle 13 (grid1.coords t) = decide (t.val < 10))
theorem flush_12 : ∀ t : Fin cfg1.N, (cfg1.win 12).flush t = decide (t.val < 9 ∨ t.val = 19) :=
  (by decide +kernel : ∀ t : Fin grid1.N, win1_12.flush t = decide (t.val < 9 ∨ t.val = 19))
theorem flush_13 : ∀ t : Fin cfg1.N, (cfg1.win 13).flush t = decide (10 ≤ t.val) :=
  (by decide +kernel : ∀ t : Fin grid1.N, win1_13.flush t = decide (10 ≤ t.val))
theorem fetch_12 : ∀ t : Fin cfg1.N, (cfg1.win 12).fetch t = false :=
  (by decide +kernel : ∀ t : Fin grid1.N, win1_12.fetch t = false)

/-- From point 10 on the edge output's buffer still holds the last block. -/
theorem before_12 (c : Dev nD) (d) : ∀ (n : ℕ) (t : Fin cfg1.N), t.val = n + 10 → (dats V 0 c).before 12 t d = eout V c 9
  | 0, t, h => by
    rw [(dats V 0 c).before_of_pos 12 t (by omega) (fetch_12 t), flush_12, if_neg (by simp; omega)]
    unfold Dat.left
    rw [show cfg1.idle 12 (cfg1.grid.coords ⟨t.val - 1, Nat.lt_of_le_of_lt (Nat.sub_le _ _) t.isLt⟩) = false from (idle_12 _).trans (decide_eq_false (by simp; omega))]
    show (dats V 0 c).after 12 _ = _
    rw [after_12]
    congr 1
    show min (t.val - 1) 9 = 9
    omega
  | n + 1, t, h => by
    have ht := lt_of_lt_of_eq t.isLt (show cfg1.N = 20 from N_1)
    rw [(dats V 0 c).before_of_pos 12 t (by omega) (fetch_12 t), flush_12, if_neg (by simp; omega)]
    unfold Dat.left
    rw [show cfg1.idle 12 (cfg1.grid.coords ⟨t.val - 1, Nat.lt_of_le_of_lt (Nat.sub_le _ _) t.isLt⟩) = true from (idle_12 _).trans (decide_eq_true (by show 10 ≤ t.val - 1; omega))]
    exact before_12 c d n _ (by show t.val - 1 = n + 10; omega)

/-! ## The body at every point -/

abbrev ms0 (t : Fin cfg1.N) := (cfg1.win 0).stage (cfg1.slots t 0)
abbrev ms1 (t : Fin cfg1.N) := (cfg1.win 1).stage (cfg1.slots t 1)
abbrev ms2 (t : Fin cfg1.N) := (cfg1.win 2).stage (cfg1.slots t 2)
abbrev ms3 (t : Fin cfg1.N) := (cfg1.win 3).stage (cfg1.slots t 3)
abbrev ms4 (t : Fin cfg1.N) := (cfg1.win 4).stage (cfg1.slots t 4)
abbrev ms5 (t : Fin cfg1.N) := (cfg1.win 5).stage (cfg1.slots t 5)
abbrev ms6 (t : Fin cfg1.N) := (cfg1.win 6).stage (cfg1.slots t 6)
abbrev ms7 (t : Fin cfg1.N) := (cfg1.win 7).stage (cfg1.slots t 7)
abbrev ms8 (t : Fin cfg1.N) := (cfg1.win 8).stage (cfg1.slots t 8)
abbrev ms9 (t : Fin cfg1.N) := (cfg1.win 9).stage (cfg1.slots t 9)
abbrev ms10 (t : Fin cfg1.N) := (cfg1.win 10).stage (cfg1.slots t 10)
abbrev ms11 (t : Fin cfg1.N) := (cfg1.win 11).stage (cfg1.slots t 11)
abbrev ms12 (t : Fin cfg1.N) := (cfg1.win 12).stage (cfg1.slots t 12)
abbrev ms13 (t : Fin cfg1.N) := (cfg1.win 13).stage (cfg1.slots t 13)

/-- What the body finds in the input windows' buffers, and leaves there. -/
def inputsAt (c : Dev nD) (t : Fin cfg1.N) : sProp 𝕄 :=
  iprop(owns (c : Thread nD τ) (ms0 t) fullShare (iblk V c 0 t) ∗ owns (c : Thread nD τ) (ms1 t) fullShare (iblk V c 1 t) ∗ owns (c : Thread nD τ) (ms2 t) fullShare (iblk V c 2 t) ∗ owns (c : Thread nD τ) (ms3 t) fullShare (rblk V c t) ∗ owns (c : Thread nD τ) (ms4 t) fullShare (iblk V c 4 t) ∗ owns (c : Thread nD τ) (ms5 t) fullShare (iblk V c 5 t) ∗ owns (c : Thread nD τ) (ms6 t) fullShare (iblk V c 6 t) ∗ owns (c : Thread nD τ) (ms7 t) fullShare (iblk V c 7 t) ∗ owns (c : Thread nD τ) (ms8 t) fullShare (iblk V c 8 t) ∗ owns (c : Thread nD τ) (ms9 t) fullShare (iblk V c 9 t) ∗ owns (c : Thread nD τ) (ms10 t) fullShare (iblk V c 10 t) ∗ owns (c : Thread nD τ) (ms11 t) fullShare (iblk V c 11 t))

/-- The first point. -/
theorem sound_first (c : Dev nD) (t : Fin cfg1.N) (R : sProp 𝕄) (ht : t.val = 0) :
    iprop(inputsAt V c t ∗ scrAny c ∗ (∃ d, owns (c : Thread nD τ) (ms12 t) fullShare d) ∗ R) ⊢ wp frame (wpE (defs₀ (F := F)) Variants.none c none) Set.univ (bodyAt1 t) (fun _ => iprop(inputsAt V c t ∗ scrEdge V c (t.val + 1) ∗ owns (c : Thread nD τ) (ms12 t) fullShare (eout V c t.val) ∗ R)) := by
  unfold bodyAt1 inputsAt
  unfold scrAny scrEdge eout nacc rsum pm er
  have e0 : pt t.val = t := pt_val t
  rw [e0]
  rw [show nacc V c t.val = k1_pay7 from by rw [ht]; rfl, show rsum V c t.val = k1_pay8 from by rw [ht]; rfl]
  unfold xbf x4a
  rw [show pt 0 = t from by rw [← ht]; exact pt_val t]
  iintro ⟨⟨H0, H1, H2, H3, H4, H5, H6, H7, H8, H9, H10, H11⟩, ⟨S0, S1, S2, S3, S4⟩, H12, H13⟩
  iapply (body_first c (grid1.coords t) _ _ _ _ _ _ _ _ _ _ _ _ _ _ _ _ _ _ _ _ _ _ _ _ _ _ _ _ _ _ _ _ _ _ _ _ _ _ ((edgePt_iff t).mpr (by omega)) ((firstPt_iff t).mpr ht) (fun h => by have := (nodePt_iff t).mp h; omega) _ _ _ _ _ _ _ Set.univ _)
  isplitl [H0]; · iexact H0
  isplitl [H1]; · iexact H1
  isplitl [H3]; · iexact H3
  isplitl [H4]; · iexact H4
  isplitl [H5]; · iexact H5
  isplitl [H6]; · iexact H6
  isplitl [H7]; · iexact H7
  isplitl [H12]; · iexact H12
  isplitl [S0]; · iexact S0
  isplitl [S1]; · iexact S1
  isplitl [S2]; · iexact S2
  isplitl [S3]; · iexact S3
  iintro ⟨H0, H1, H3, H4, H5, H6, H7, H12, S0, S1, S2, S3⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [S0 S1 S2 S3 S4]
  · isplitl [S0]; · iexact S0
    isplitl [S1]; · iexact S1
    isplitl [S2]; · iexact S2
    isplitl [S3]; · iexact S3
    iexact S4
  isplitl [H12]; · iexact H12
  iexact H13

/-- A later hyperedge point. -/
theorem sound_edge (c : Dev nD) (t : Fin cfg1.N) (R : sProp 𝕄) (h0 : t.val ≠ 0) (ht : t.val < 10) :
    iprop(inputsAt V c t ∗ scrEdge V c t.val ∗ (∃ d, owns (c : Thread nD τ) (ms12 t) fullShare d) ∗ R) ⊢ wp frame (wpE (defs₀ (F := F)) Variants.none c none) Set.univ (bodyAt1 t) (fun _ => iprop(inputsAt V c t ∗ scrEdge V c (t.val + 1) ∗ owns (c : Thread nD τ) (ms12 t) fullShare (eout V c t.val) ∗ R)) := by
  unfold bodyAt1 inputsAt
  rw [show scrEdge V c (t.val + 1) = _ from by unfold scrEdge nacc rsum pm er; rw [pt_val t]]
  unfold scrEdge eout
  rw [pt_val t]
  iintro ⟨⟨H0, H1, H2, H3, H4, H5, H6, H7, H8, H9, H10, H11⟩, ⟨S0, S1, S2, S3, S4⟩, H12, H13⟩
  iapply (body_edge c (grid1.coords t) _ _ _ _ _ _ _ _ _ _ _ _ _ _ _ _ _ _ _ _ _ _ _ _ _ _ _ _ _ _ _ _ _ _ _ _ _ _ ((edgePt_iff t).mpr ht) (fun h => h0 ((firstPt_iff t).mp h)) (fun h => by have := (nodePt_iff t).mp h; omega) _ _ _ _ _ _ _ _ _ Set.univ _)
  isplitl [H0]; · iexact H0
  isplitl [H3]; · iexact H3
  isplitl [H5]; · iexact H5
  isplitl [H6]; · iexact H6
  isplitl [H7]; · iexact H7
  isplitl [H12]; · iexact H12
  isplitl [S0]; · iexact S0
  isplitl [S1]; · iexact S1
  isplitl [S2]; · iexact S2
  isplitl [S3]; · iexact S3
  iintro ⟨H0, H3, H5, H6, H7, H12, S0, S1, S2, S3⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [S0 S1 S2 S3 S4]
  · isplitl [S0]; · iexact S0
    isplitl [S1]; · iexact S1
    isplitl [S2]; · iexact S2
    isplitl [S3]; · iexact S3
    iexact S4
  isplitl [H12]; · iexact H12
  iexact H13

/-- The first node point. -/
theorem sound_turn (c : Dev nD) (t : Fin cfg1.N) (ht : t.val = 10) :
    iprop(inputsAt V c t ∗ scrEdge V c 10 ∗ owns (c : Thread nD τ) (ms12 t) fullShare (eout V c 9) ∗ (∃ d, owns (c : Thread nD τ) (ms13 t) fullShare d)) ⊢ wp frame (wpE (defs₀ (F := F)) Variants.none c none) Set.univ (bodyAt1 t) (fun _ => iprop(inputsAt V c t ∗ scrNode V c ∗ owns (c : Thread nD τ) (ms12 t) fullShare (eout V c 9) ∗ owns (c : Thread nD τ) (ms13 t) fullShare (xout V c t))) := by
  unfold bodyAt1 inputsAt
  have hn : nodePt (grid1.coords t) := (nodePt_iff t).mpr (by omega)
  unfold scrEdge scrNode xout rcol
  rw [dif_pos hn]
  iintro ⟨⟨H0, H1, H2, H3, H4, H5, H6, H7, H8, H9, H10, H11⟩, ⟨S0, S1, S2, S3, S4⟩, H12, H13⟩
  iapply (body_turn c (grid1.coords t) _ _ _ _ _ _ _ _ _ _ _ _ _ _ _ _ _ _ _ _ _ _ _ _ _ _ _ _ _ _ _ _ _ _ _ _ _ _ (fun h => by have := (edgePt_iff t).mp h; omega) hn ((turnPt_iff t).mpr ht) _ _ _ _ _ _ _ _ _ Set.univ _)
  isplitl [H2]; · iexact H2
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [S2]; · iexact S2
  isplitl [S3]; · iexact S3
  isplitl [S4]; · iexact S4
  iintro ⟨H2, H6, H7, H8, H9, H10, H11, H13, S2, S3, S4⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [S0 S1 S2 S3 S4]
  · isplitl [S0]; · iexact S0
    isplitl [S1]; · iexact S1
    isplitl [S2]; · iexact S2
    isplitl [S3]; · iexact S3
    iexact S4
  isplitl [H12]; · iexact H12
  iexact H13

/-- A later node point. -/
theorem sound_node (c : Dev nD) (t : Fin cfg1.N) (ht : 10 < t.val) :
    iprop(inputsAt V c t ∗ scrNode V c ∗ owns (c : Thread nD τ) (ms12 t) fullShare (eout V c 9) ∗ (∃ d, owns (c : Thread nD τ) (ms13 t) fullShare d)) ⊢ wp frame (wpE (defs₀ (F := F)) Variants.none c none) Set.univ (bodyAt1 t) (fun _ => iprop(inputsAt V c t ∗ scrNode V c ∗ owns (c : Thread nD τ) (ms12 t) fullShare (eout V c 9) ∗ owns (c : Thread nD τ) (ms13 t) fullShare (xout V c t))) := by
  unfold bodyAt1 inputsAt
  have hn : nodePt (grid1.coords t) := (nodePt_iff t).mpr (by omega)
  unfold scrNode xout
  rw [dif_pos hn]
  iintro ⟨⟨H0, H1, H2, H3, H4, H5, H6, H7, H8, H9, H10, H11⟩, ⟨S0, S1, S2, S3, S4⟩, H12, H13⟩
  iapply (body_node c (grid1.coords t) _ _ _ _ _ _ _ _ _ _ _ _ _ _ _ _ _ _ _ _ _ _ _ _ _ _ _ _ _ _ _ _ _ _ _ _ _ _ (fun h => by have := (edgePt_iff t).mp h; omega) hn (fun h => by have := (turnPt_iff t).mp h; omega) _ _ _ _ _ _ _ _ _ Set.univ _)
  isplitl [H2]; · iexact H2
  isplitl [H6]; · iexact H6
  isplitl [H7]; · iexact H7
  isplitl [H8]; · iexact H8
  isplitl [H9]; · iexact H9
  isplitl [H10]; · iexact H10
  isplitl [H11]; · iexact H11
  isplitl [H13]; · iexact H13
  isplitl [S2]; · iexact S2
  isplitl [S4]; · iexact S4
  iintro ⟨H2, H6, H7, H8, H9, H10, H11, H13, S2, S4⟩
  isplitl [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [S0 S1 S2 S3 S4]
  · isplitl [S0]; · iexact S0
    isplitl [S1]; · iexact S1
    isplitl [S2]; · iexact S2
    isplitl [S3]; · iexact S3
    iexact S4
  isplitl [H12]; · iexact H12
  iexact H13

/-! What the run data ask of each buffer after the body. -/

theorem leaves_0 (c : Dev nD) (t : Fin cfg1.N) : (dats V 0 c).leavesExact 0 t = owns (c : Thread nD τ) (ms0 t) fullShare (iblk V c 0 t) := by
  rw [← after_0]
theorem leaves_1 (c : Dev nD) (t : Fin cfg1.N) : (dats V 0 c).leavesExact 1 t = owns (c : Thread nD τ) (ms1 t) fullShare (iblk V c 1 t) := by
  rw [← after_1]
theorem leaves_2 (c : Dev nD) (t : Fin cfg1.N) : (dats V 0 c).leavesExact 2 t = owns (c : Thread nD τ) (ms2 t) fullShare (iblk V c 2 t) := by
  rw [← after_2]
theorem leaves_3 (c : Dev nD) (t : Fin cfg1.N) : (dats V 0 c).leavesExact 3 t = owns (c : Thread nD τ) (ms3 t) fullShare (rblk V c t) := by
  rw [← after_3]
theorem leaves_4 (c : Dev nD) (t : Fin cfg1.N) : (dats V 0 c).leavesExact 4 t = owns (c : Thread nD τ) (ms4 t) fullShare (iblk V c 4 t) := by
  rw [← after_4]
theorem leaves_5 (c : Dev nD) (t : Fin cfg1.N) : (dats V 0 c).leavesExact 5 t = owns (c : Thread nD τ) (ms5 t) fullShare (iblk V c 5 t) := by
  rw [← after_5]
theorem leaves_6 (c : Dev nD) (t : Fin cfg1.N) : (dats V 0 c).leavesExact 6 t = owns (c : Thread nD τ) (ms6 t) fullShare (iblk V c 6 t) := by
  rw [← after_6]
theorem leaves_7 (c : Dev nD) (t : Fin cfg1.N) : (dats V 0 c).leavesExact 7 t = owns (c : Thread nD τ) (ms7 t) fullShare (iblk V c 7 t) := by
  rw [← after_7]
theorem leaves_8 (c : Dev nD) (t : Fin cfg1.N) : (dats V 0 c).leavesExact 8 t = owns (c : Thread nD τ) (ms8 t) fullShare (iblk V c 8 t) := by
  rw [← after_8]
theorem leaves_9 (c : Dev nD) (t : Fin cfg1.N) : (dats V 0 c).leavesExact 9 t = owns (c : Thread nD τ) (ms9 t) fullShare (iblk V c 9 t) := by
  rw [← after_9]
theorem leaves_10 (c : Dev nD) (t : Fin cfg1.N) : (dats V 0 c).leavesExact 10 t = owns (c : Thread nD τ) (ms10 t) fullShare (iblk V c 10 t) := by
  rw [← after_10]
theorem leaves_11 (c : Dev nD) (t : Fin cfg1.N) : (dats V 0 c).leavesExact 11 t = owns (c : Thread nD τ) (ms11 t) fullShare (iblk V c 11 t) := by
  rw [← after_11]
theorem leaves_12_edge (c : Dev nD) (t : Fin cfg1.N) (ht : t.val < 10) : (dats V 0 c).leavesExact 12 t = owns (c : Thread nD τ) (ms12 t) fullShare (eout V c t.val) := by
  unfold Dat.leavesExact
  rw [show cfg1.idle 12 (cfg1.grid.coords t) = false from (idle_12 t).trans (decide_eq_false (by omega)), after_12, show min t.val 9 = t.val from by omega]
theorem leaves_12_node (c : Dev nD) (t : Fin cfg1.N) (ht : 10 ≤ t.val) : owns (c : Thread nD τ) (ms12 t) fullShare (eout V c 9) ⊢ ((dats V 0 c).leavesExact 12 t : sProp 𝕄) := by
  unfold Dat.leavesExact
  rw [show cfg1.idle 12 (cfg1.grid.coords t) = true from (idle_12 t).trans (decide_eq_true ht)]
  by_cases h19 : t.val = 19
  · rw [show (cfg1.win 12).flush t = true from (flush_12 t).trans (decide_eq_true (Or.inr h19)), after_12, show min t.val 9 = 9 from by omega]
  · rw [show (cfg1.win 12).flush t = false from (flush_12 t).trans (decide_eq_false (by omega))]
    iintro H
    iexists (fun _ => Classical.choice inferInstance)
    rw [before_12 V c _ (t.val - 10) t (by omega)]
    iexact H
theorem leaves_13_edge (c : Dev nD) (t : Fin cfg1.N) (ht : t.val < 10) : (dats V 0 c).leavesExact 13 t = iprop(∃ d, owns (c : Thread nD τ) (ms13 t) fullShare ((dats V 0 c).before 13 t d)) :=
  (dats V 0 c).leavesExact_idle 13 t ((idle_13 t).trans (decide_eq_true ht)) ((flush_13 t).trans (decide_eq_false (by omega)))
theorem leaves_13_node (c : Dev nD) (t : Fin cfg1.N) (ht : 10 ≤ t.val) : (dats V 0 c).leavesExact 13 t = owns (c : Thread nD τ) (ms13 t) fullShare (xout V c t) := by
  unfold Dat.leavesExact
  rw [show cfg1.idle 13 (cfg1.grid.coords t) = false from (idle_13 t).trans (decide_eq_false (by omega)), after_13]

end Cert.Proof.Tc

end
-- ==== Proof.TcCall.lean ====
/-
  The TensorCore call as one step of the host program: the body keeps to the run data at every point, the scratch is
  handed over and back, and the call runs from its arrays to its arrays.
-/
module

public import proofs.«01_k».proof.Proof.TcData
public import Idealize.ShloMosaic.Lib.Pipeline.RegionArrays

@[expose] public section

set_option maxRecDepth 16384

noncomputable section

namespace Cert.Proof.Tc

open Cert.KernelIdeal Cert.KernelIdeal.Gen
open Cert.Proof.Sc (UU)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ
local notation "DatT" => Dat τ (Elt F) (HIx 1) ℕ UU ℕ cfg1

-- The core's arrays as the call finds them.
variable (V : (c : Dev nD) → (b : Ref sig .tc) → Buf (Elt F) ((c : Thread nD τ).loc b))

/-- The buffers as a point finds them. -/
def bodyPre (c : Dev nD) (t : Fin cfg1.N) : sProp 𝕄 :=
  iprop((dats V 0 c).Φ t.castSucc ∗ (dats V 0 c).owesAt none t.castSucc
    ∗ (∃ d, owns (c : Thread nD τ) (ms0 t) fullShare ((dats V 0 c).before 0 t d))
    ∗ (∃ d, owns (c : Thread nD τ) (ms1 t) fullShare ((dats V 0 c).before 1 t d))
    ∗ (∃ d, owns (c : Thread nD τ) (ms2 t) fullShare ((dats V 0 c).before 2 t d))
    ∗ (∃ d, owns (c : Thread nD τ) (ms3 t) fullShare ((dats V 0 c).before 3 t d))
    ∗ (∃ d, owns (c : Thread nD τ) (ms4 t) fullShare ((dats V 0 c).before 4 t d))
    ∗ (∃ d, owns (c : Thread nD τ) (ms5 t) fullShare ((dats V 0 c).before 5 t d))
    ∗ (∃ d, owns (c : Thread nD τ) (ms6 t) fullShare ((dats V 0 c).before 6 t d))
    ∗ (∃ d, owns (c : Thread nD τ) (ms7 t) fullShare ((dats V 0 c).before 7 t d))
    ∗ (∃ d, owns (c : Thread nD τ) (ms8 t) fullShare ((dats V 0 c).before 8 t d))
    ∗ (∃ d, owns (c : Thread nD τ) (ms9 t) fullShare ((dats V 0 c).before 9 t d))
    ∗ (∃ d, owns (c : Thread nD τ) (ms10 t) fullShare ((dats V 0 c).before 10 t d))
    ∗ (∃ d, owns (c : Thread nD τ) (ms11 t) fullShare ((dats V 0 c).before 11 t d))
    ∗ (∃ d, owns (c : Thread nD τ) (ms12 t) fullShare ((dats V 0 c).before 12 t d))
    ∗ (∃ d, owns (c : Thread nD τ) (ms13 t) fullShare ((dats V 0 c).before 13 t d)))
/-- The buffers as a point leaves them. -/
def bodyPost (c : Dev nD) (t : Fin cfg1.N) : sProp 𝕄 :=
  iprop((dats V 0 c).Φ t.succ ∗ (dats V 0 c).owesAt none t.succ
    ∗ (dats V 0 c).leavesExact 0 t
    ∗ (dats V 0 c).leavesExact 1 t
    ∗ (dats V 0 c).leavesExact 2 t
    ∗ (dats V 0 c).leavesExact 3 t
    ∗ (dats V 0 c).leavesExact 4 t
    ∗ (dats V 0 c).leavesExact 5 t
    ∗ (dats V 0 c).leavesExact 6 t
    ∗ (dats V 0 c).leavesExact 7 t
    ∗ (dats V 0 c).leavesExact 8 t
    ∗ (dats V 0 c).leavesExact 9 t
    ∗ (dats V 0 c).leavesExact 10 t
    ∗ (dats V 0 c).leavesExact 11 t
    ∗ (dats V 0 c).leavesExact 12 t
    ∗ (dats V 0 c).leavesExact 13 t)

/-- The twelve inputs' buffers hold their blocks. -/
theorem inputs_found (c : Dev nD) (t : Fin cfg1.N) (A B : sProp 𝕄) :
    iprop((∃ d, owns (c : Thread nD τ) (ms0 t) fullShare ((dats V 0 c).before 0 t d)) ∗ (∃ d, owns (c : Thread nD τ) (ms1 t) fullShare ((dats V 0 c).before 1 t d)) ∗ (∃ d, owns (c : Thread nD τ) (ms2 t) fullShare ((dats V 0 c).before 2 t d)) ∗ (∃ d, owns (c : Thread nD τ) (ms3 t) fullShare ((dats V 0 c).before 3 t d)) ∗ (∃ d, owns (c : Thread nD τ) (ms4 t) fullShare ((dats V 0 c).before 4 t d)) ∗ (∃ d, owns (c : Thread nD τ) (ms5 t) fullShare ((dats V 0 c).before 5 t d)) ∗ (∃ d, owns (c : Thread nD τ) (ms6 t) fullShare ((dats V 0 c).before 6 t d)) ∗ (∃ d, owns (c : Thread nD τ) (ms7 t) fullShare ((dats V 0 c).before 7 t d)) ∗ (∃ d, owns (c : Thread nD τ) (ms8 t) fullShare ((dats V 0 c).before 8 t d)) ∗ (∃ d, owns (c : Thread nD τ) (ms9 t) fullShare ((dats V 0 c).before 9 t d)) ∗ (∃ d, owns (c : Thread nD τ) (ms10 t) fullShare ((dats V 0 c).before 10 t d)) ∗ (∃ d, owns (c : Thread nD τ) (ms11 t) fullShare ((dats V 0 c).before 11 t d)) ∗ A ∗ B) ⊢ iprop(inputsAt V c t ∗ A ∗ B) := by
  simp only [before_0, before_1, before_2, before_3, before_4, before_5, before_6, before_7, before_8, before_9, before_10, before_11]
  unfold inputsAt
  iintro ⟨⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, HA, HB⟩
  isplitr [HA HB]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  isplitl [HA]; · iexact HA
  iexact HB

/-- The twelve inputs' buffers are left as found. -/
theorem inputs_left (c : Dev nD) (t : Fin cfg1.N) (A B : sProp 𝕄) :
    iprop(inputsAt V c t ∗ A ∗ B) ⊢ iprop((dats V 0 c).leavesExact 0 t ∗ (dats V 0 c).leavesExact 1 t ∗ (dats V 0 c).leavesExact 2 t ∗ (dats V 0 c).leavesExact 3 t ∗ (dats V 0 c).leavesExact 4 t ∗ (dats V 0 c).leavesExact 5 t ∗ (dats V 0 c).leavesExact 6 t ∗ (dats V 0 c).leavesExact 7 t ∗ (dats V 0 c).leavesExact 8 t ∗ (dats V 0 c).leavesExact 9 t ∗ (dats V 0 c).leavesExact 10 t ∗ (dats V 0 c).leavesExact 11 t ∗ A ∗ B) := by
  rw [leaves_0, leaves_1, leaves_2, leaves_3, leaves_4, leaves_5, leaves_6, leaves_7, leaves_8, leaves_9, leaves_10, leaves_11]
  unfold inputsAt
  iintro ⟨⟨H0, H1, H2, H3, H4, H5, H6, H7, H8, H9, H10, H11⟩, HA, HB⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HA]; · iexact HA
  iexact HB

theorem Phi_at (c : Dev nD) (t : Fin (cfg1.N + 1)) : (dats V 0 c).Φ t = scr V c t.val := rfl
theorem scr_zero (c : Dev nD) : scr V c 0 = scrAny c := if_pos rfl
theorem scr_edge (c : Dev nD) (n : ℕ) (h0 : n ≠ 0) (h : n ≤ 10) : scr V c n = scrEdge V c n := by unfold scr; rw [if_neg h0, if_pos h]
theorem scr_node (c : Dev nD) (n : ℕ) (h : 10 < n) : scr V c n = scrNode V c := by unfold scr; rw [if_neg (by omega), if_neg (by omega)]

/-- What is left to hand over around one point's run: the scratch and the two outputs' buffers, the inputs' and the core's tally apart. -/
theorem sound_of (c : Dev nD) (t : Fin cfg1.N) (S S' O12 O13 : sProp 𝕄) (hS : scr V c t.val = S) (hS' : scr V c (t.val + 1) = S')
    (h : iprop(inputsAt V c t ∗ S ∗ (∃ d, owns (c : Thread nD τ) (ms12 t) fullShare ((dats V 0 c).before 12 t d)) ∗ (∃ d, owns (c : Thread nD τ) (ms13 t) fullShare ((dats V 0 c).before 13 t d)))
      ⊢ wp frame (wpE (defs₀ (F := F)) Variants.none c none) Set.univ (bodyAt1 t) (fun _ => iprop(inputsAt V c t ∗ S' ∗ (dats V 0 c).leavesExact 12 t ∗ (dats V 0 c).leavesExact 13 t))) :
    bodyPre V c t ⊢ wp frame (wpE (defs₀ (F := F)) Variants.none c none) Set.univ (bodyAt1 t) (fun _ => bodyPost V c t) := by
  unfold bodyPre bodyPost
  rw [Phi_castSucc, hS, Phi_at, show (t.succ : Fin (cfg1.N + 1)).val = t.val + 1 from rfl, hS', show (dats V 0 c).owesAt none t.succ = (dats V 0 c).owesAt none t.castSucc from rfl]
  have hpre := inputs_found V c t (iprop(∃ d, owns (c : Thread nD τ) (ms12 t) fullShare ((dats V 0 c).before 12 t d))) (iprop(∃ d, owns (c : Thread nD τ) (ms13 t) fullShare ((dats V 0 c).before 13 t d)))
  have hpost := inputs_left V c t ((dats V 0 c).leavesExact 12 t) ((dats V 0 c).leavesExact 13 t)
  iintro ⟨HS, HO, HW⟩
  icases hpre $$ HW with ⟨HI, H12, H13⟩
  ihave Hw := h $$ [HI HS H12 H13]
  · isplitl [HI]; · iexact HI
    isplitl [HS]; · iexact HS
    isplitl [H12]; · iexact H12
    iexact H13
  iapply wp_wand $$ Hw
  iintro %_ ⟨HI, HS, H12, H13⟩
  isplitl [HS]; · iexact HS
  isplitl [HO]; · iexact HO
  iapply hpost
  isplitl [HI]; · iexact HI
  isplitl [H12]; · iexact H12
  iexact H13

theorem sound_body (c : Dev nD) (t : Fin cfg1.N) :
    bodyPre V c t ⊢ wp frame (wpE (defs₀ (F := F)) Variants.none c none) Set.univ (bodyAt1 t) (fun _ => bodyPost V c t) := by
  have h12 : iprop(∃ d, owns (c : Thread nD τ) (ms12 t) fullShare ((dats V 0 c).before 12 t d)) ⊢ (iprop(∃ d, owns (c : Thread nD τ) (ms12 t) fullShare d) : sProp 𝕄) := by
    iintro ⟨%d, H⟩; iexists _; iexact H
  have h13 : iprop(∃ d, owns (c : Thread nD τ) (ms13 t) fullShare ((dats V 0 c).before 13 t d)) ⊢ (iprop(∃ d, owns (c : Thread nD τ) (ms13 t) fullShare d) : sProp 𝕄) := by
    iintro ⟨%d, H⟩; iexists _; iexact H
  by_cases hE : t.val < 10
  · have hpost (_ : PUnit.{1}) : iprop(inputsAt V c t ∗ scrEdge V c (t.val + 1) ∗ owns (c : Thread nD τ) (ms12 t) fullShare (eout V c t.val) ∗ (∃ d, owns (c : Thread nD τ) (ms13 t) fullShare ((dats V 0 c).before 13 t d)))
        ⊢ iprop(inputsAt V c t ∗ scrEdge V c (t.val + 1) ∗ (dats V 0 c).leavesExact 12 t ∗ (dats V 0 c).leavesExact 13 t) := by
      rw [leaves_12_edge V c t hE, leaves_13_edge V c t hE]
    by_cases h0 : t.val = 0
    · exact sound_of V c t (scrAny c) (scrEdge V c (t.val + 1)) iprop(emp) iprop(emp) (by rw [h0, scr_zero]) (scr_edge V c _ (by omega) (by omega))
        ((sep_mono_right (sep_mono_right (sep_mono_left h12))).trans ((sound_first V c t _ h0).trans (wp_mono _ _ _ fun a => hpost a)))
    · exact sound_of V c t (scrEdge V c t.val) (scrEdge V c (t.val + 1)) iprop(emp) iprop(emp) (scr_edge V c _ h0 (by omega)) (scr_edge V c _ (by omega) (by omega))
        ((sep_mono_right (sep_mono_right (sep_mono_left h12))).trans ((sound_edge V c t _ h0 hE).trans (wp_mono _ _ _ fun a => hpost a)))
  · have hpost (_ : PUnit.{1}) : iprop(inputsAt V c t ∗ scrNode V c ∗ owns (c : Thread nD τ) (ms12 t) fullShare (eout V c 9) ∗ owns (c : Thread nD τ) (ms13 t) fullShare (xout V c t))
        ⊢ iprop(inputsAt V c t ∗ scrNode V c ∗ (dats V 0 c).leavesExact 12 t ∗ (dats V 0 c).leavesExact 13 t) := by
      rw [leaves_13_node V c t (by omega)]
      exact sep_mono_right (sep_mono_right (sep_mono_left (leaves_12_node V c t (by omega))))
    have h12' : iprop(∃ d, owns (c : Thread nD τ) (ms12 t) fullShare ((dats V 0 c).before 12 t d)) ⊢ (owns (c : Thread nD τ) (ms12 t) fullShare (eout V c 9) : sProp 𝕄) := by
      iintro ⟨%d, H⟩; rw [before_12 V c d (t.val - 10) t (by omega)]; iexact H
    by_cases h1 : t.val = 10
    · exact sound_of V c t (scrEdge V c 10) (scrNode V c) iprop(emp) iprop(emp) (by rw [h1]; exact scr_edge V c _ (by omega) (by omega)) (scr_node V c _ (by omega))
        ((sep_mono_right (sep_mono_right (sep_mono h12' h13))).trans ((sound_turn V c t h1).trans (wp_mono _ _ _ fun a => hpost a)))
    · exact sound_of V c t (scrNode V c) (scrNode V c) iprop(emp) iprop(emp) (scr_node V c _ (by omega)) (scr_node V c _ (by omega))
        ((sep_mono_right (sep_mono_right (sep_mono h12' h13))).trans ((sound_node V c t (by omega)).trans (wp_mono _ _ _ fun a => hpost a)))

theorem defs₀_row (t : Fin cfg1.N) : defs₀ (F := F) .tc cfg1.body (cfg1.bodyArgs t (cfg1.slots t)) = bodyAt1 t := by
  unfold defs₀; rfl

theorem body_obligation (c : Dev nD) : BodyObligation (dats (F := F) V 0 c) (defs₀ (F := F)) Variants.none none Set.univ := fun t => by
  rw [bigSep_W1, bigSep_W1, defs₀_row]
  exact triple_restated (sound_body V c t) rfl .rfl fun _ => .rfl

end Cert.Proof.Tc

end
-- ==== Proof.Run.lean ====
/-
  The whole program's run: the host operations around the SparseCore call and the TensorCore call, from any memory whose
  list of root indices stays inside the table, to the memory `fin m` describes.
-/
module

public import proofs.«01_k».proof.Proof.TcCall
public import Idealize.ShloMosaic.Lib.Pipeline.RegionArrays
public import Idealize.ShloMosaic.Lib.Pipeline.RegionsLoop

@[expose] public section

set_option maxRecDepth 16384

noncomputable section

namespace Cert.Proof.Run

open Cert.KernelIdeal Cert.KernelIdeal.Gen
open Cert.Proof.Sc
open Cert.Proof.Tc (dats body_obligation scr_zero scr_node scopedRest_scr scrAny scrNode scr)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ
local notation "DatT" => Dat τ (Elt F) (HIx 1) ℕ UU ℕ cfg1

/-! ## The host operations -/

/-- The host's operations before the SparseCore call: the list of row numbers, padded. -/
abbrev opsA : List (HloOp τ sig (Elt F)) :=
  [StableHlo.nullary main_c (constantI S_ 32 0#32),
   StableHlo.unary main_c main_v0 (broadcastInDim S48 ![] bcast_S_S48 : (⟨S_, .i32⟩ : BufTy).Contents (Elt F) → (⟨S48, .i32⟩ : BufTy).Contents (Elt F)),
   StableHlo.binary main_arg2 main_v0 main_v1 ((fun a b => concatenate S2048 0 [⟨S2000, a⟩, ⟨S48, b⟩] concatenates_S2000_S48_S2048_d0) : (⟨S2000, .i32⟩ : BufTy).Contents (Elt F) → (⟨S48, .i32⟩ : BufTy).Contents (Elt F) → (⟨S2048, .i32⟩ : BufTy).Contents (Elt F))]

/-- And between the two calls: the normalization's scale and offset, the transposed incidence, the reshaped weights. -/
abbrev opsB : List (HloOp τ sig (Elt F)) :=
  [StableHlo.nullary main_cst (constant S_ .f32 0x3727C5AC#32),
   StableHlo.unary main_cst main_v3 (broadcastInDim S128 ![] bcast_S_S128 : (⟨S_, .f32⟩ : BufTy).Contents (Elt F) → (⟨S128, .f32⟩ : BufTy).Contents (Elt F)),
   StableHlo.binary main_arg8 main_v3 main_v4 (addf : (⟨S128, .f32⟩ : BufTy).Contents (Elt F) → (⟨S128, .f32⟩ : BufTy).Contents (Elt F) → (⟨S128, .f32⟩ : BufTy).Contents (Elt F)),
   StableHlo.unary main_v4 main_v5 (Host.rsqrt : (⟨S128, .f32⟩ : BufTy).Contents (Elt F) → (⟨S128, .f32⟩ : BufTy).Contents (Elt F)),
   StableHlo.binary main_arg5 main_v5 main_v6 (mulf : (⟨S128, .f32⟩ : BufTy).Contents (Elt F) → (⟨S128, .f32⟩ : BufTy).Contents (Elt F) → (⟨S128, .f32⟩ : BufTy).Contents (Elt F)),
   StableHlo.reshape main_v6 main_v7 (rfl : (.f32 : EltTy) = .f32) shapeCasts_S128_S1x128,
   StableHlo.reshape main_v7 main_v8 (rfl : (.f32 : EltTy) = .f32) shapeCasts_S1x128_S128,
   StableHlo.binary main_arg7 main_v8 main_v9 (mulf : (⟨S128, .f32⟩ : BufTy).Contents (Elt F) → (⟨S128, .f32⟩ : BufTy).Contents (Elt F) → (⟨S128, .f32⟩ : BufTy).Contents (Elt F)),
   StableHlo.binary main_arg6 main_v9 main_v10 (subf : (⟨S128, .f32⟩ : BufTy).Contents (Elt F) → (⟨S128, .f32⟩ : BufTy).Contents (Elt F) → (⟨S128, .f32⟩ : BufTy).Contents (Elt F)),
   StableHlo.reshape main_v10 main_v11 (rfl : (.f32 : EltTy) = .f32) shapeCasts_S128_S1x128,
   StableHlo.unary main_arg1 main_v12 ((transpose S2000x10000 [1, 0] · transposes_S10000x2000_S2000x10000_1_0) : (⟨S10000x2000, .f32⟩ : BufTy).Contents (Elt F) → (⟨S2000x10000, .f32⟩ : BufTy).Contents (Elt F)),
   StableHlo.reshape main_arg10 main_v13 (rfl : (.f32 : EltTy) = .f32) shapeCasts_S128_S1x128,
   StableHlo.reshape main_arg11 main_v14 (rfl : (.f32 : EltTy) = .f32) shapeCasts_S128x1_S1x128,
   StableHlo.reshape main_arg12 main_v15 (rfl : (.f32 : EltTy) = .f32) shapeCasts_S1_S1x1]

/-- @main is the first operations, the SparseCore call, the second operations and the TensorCore call. -/
theorem main_eq (d : Dev nD) : main (F := F) d =
    (StableHlo.seq opsA >>= fun _ => (sc (F := F)).run d 0 >>= fun _ => StableHlo.seq opsB >>= fun _ =>
      SparseCore.liftProg (Prog.op (.customCall (Pipeline.entry (p := (0 : Fin 1))) ()) fun _ => Prog.ret ⟨⟩)) := by
  simp only [main, StableHlo.seq, bind_assoc, pure_bind]
  rfl

/-! ## The TensorCore call from buffers to buffers -/

abbrev adm : (p : Fin 1) → (pcfgs (F := F) p).Adm := fun p => (cfgs p).toPCfg_adm

/-- A device's buffers by name, as the TensorCore sees them. -/
abbrev view (W : Dev nD → Valuation τ sig (Elt F)) (c : Dev nD) (b : Ref sig .tc) : Buf (Elt F) ((c : Thread nD τ).loc b) := W c (Proc.devRef .tc b)

/-- The edge output's array after the call. -/
def edgeArr (W : Dev nD → Valuation τ sig (Elt F)) (c : Dev nD) : S2000x128.Idx → Elt F .f32 := (dats (view W) 0 c).arrAt 12 cfg1.N
/-- The node output's array after the call. -/
def nodeArr (W : Dev nD → Valuation τ sig (Elt F)) (c : Dev nD) : S10000x128.Idx → Elt F .f32 := (dats (view W) 0 c).arrAt 13 cfg1.N

/-- The buffers after the call: the two outputs written, every other as it was. -/
def afterTc (W : Dev nD → Valuation τ sig (Elt F)) (c : Dev nD) : Valuation τ sig (Elt F) :=
  Function.update (Function.update (W c) (Proc.devRef .tc main_v16_0) (edgeArr W c)) (Proc.devRef .tc main_v16_1) (nodeArr W c)

theorem afterTc_node (W : Dev nD → Valuation τ sig (Elt F)) (c : Dev nD) : afterTc W c (Proc.devRef .tc main_v16_1) = nodeArr W c :=
  Function.update_self _ _ _
theorem afterTc_edge (W : Dev nD → Valuation τ sig (Elt F)) (c : Dev nD) : afterTc W c (Proc.devRef .tc main_v16_0) = edgeArr W c :=
  (Function.update_of_ne (StableHlo.devRef_ne_of_ne (by decide)) _ _).trans (Function.update_self _ _ _)
theorem afterTc_other (W : Dev nD → Valuation τ sig (Elt F)) (c : Dev nD) (b : Ref sig .tc) (h0 : b ≠ main_v16_0) (h1 : b ≠ main_v16_1) :
    afterTc W c (Proc.devRef .tc b) = W c (Proc.devRef .tc b) :=
  (Function.update_of_ne (StableHlo.devRef_ne_of_ne h1) _ _).trans (Function.update_of_ne (StableHlo.devRef_ne_of_ne h0) _ _)

/-- What rides along: the buffers no window is on. -/
abbrev rest (W : Dev nD → Valuation τ sig (Elt F)) (c : Dev nD) : sProp 𝕄 := Pipeline.unscopedRest spec1 c (view W c)

theorem cut : Pipeline.LevelCut (pcfgs (F := F)) adm none (K (F := F)).L (K (F := F)).lev 0 (fun _ : Dev nD => (0 : CellTallies nD τ sig (HIx 1))) (fun _ => 0) where
  hι _ _ _ := Finset.mem_univ _
  hιb _ _ _ := le_rfl
  hD _ _ _ h := absurd h (Nat.lt_irrefl 0)

def region (W : Dev nD → Valuation τ sig (Elt F)) :
    Pipeline.RegionSeg (pcfgs (F := F)) adm (dats (view W)) none (defs₀ (F := F)) Variants.none (K (F := F)).L (K (F := F)).lev 0 :=
  Pipeline.RegionSeg.ofArrays (pcfgs (F := F)) adm (dats (view W)) none (defs₀ (F := F)) Variants.none (K (F := F)).L (K (F := F)).lev 0
    (fun _ => 0) (fun _ => iprop(emp)) (fun _ => iprop(emp)) launch₀1.toP rfl
    (fun c => (body_obligation (view W) c).loose) (fun _ _ => rfl) (fun _ => rfl)
    (fun c => by
      show iprop(Pipeline.scopedRest spec1 c ∗ emp) ⊢ scr (view W) c 0
      rw [scr_zero, scopedRest_scr]
      iintro ⟨H, -⟩; iexact H)
    (fun c => by
      show scr (view W) c (Fin.last cfg1.N).val ⊢ iprop(Pipeline.scopedRest spec1 c ∗ emp)
      rw [scr_node (view W) c _ (by show 10 < cfg1.N; rw [show cfg1.N = 20 from N_1]; omega), scopedRest_scr]
      unfold scrNode scrAny
      iintro ⟨H0, H1, H2, H3, H4⟩
      isplitl [H0 H1 H2 H3 H4]
      · isplitl [H0]; · iexists _; iexact H0
        isplitl [H1]; · iexists _; iexact H1
        isplitl [H2]; · iexists _; iexact H2
        isplitl [H3]; · iexists _; iexact H3
        iexists _; iexact H4
      · iempintro)
    (fun _ => 0) cut (rest W)

theorem enter (W : Dev nD → Valuation τ sig (Elt F)) (c : Dev nD) :
    (StableHlo.held (c : Thread nD τ) (Pipeline.ucRefs τ sig) (W c) : sProp 𝕄)
      ⊢ iprop((dats (view W) 0 c).arrays ((dats (view W) 0 c).arrAt · 0) ∗ rest W c) := by
  rw [← Pipeline.unscopedBufs_held, Pipeline.unscopedBufs_split₀ cfgs 0 launch₀1.win.arr_unscoped c (view W c)]
  exact sep_mono_left ((dats (view W) 0 c).arrays_split_shared launch₀1.sharedIn launch₀1.arr_whole (fun _ _ => rfl) (view W c) _ (fun _ => rfl))

theorem leave (W : Dev nD → Valuation τ sig (Elt F)) (c : Dev nD) :
    iprop((dats (view W) 0 c).arrays ((dats (view W) 0 c).arrAt · cfg1.N) ∗ rest W c)
      ⊢ (StableHlo.held (c : Thread nD τ) (Pipeline.ucRefs τ sig) (afterTc W c) : sProp 𝕄) := by
  rw [← Pipeline.unscopedBufs_held]
  refine Pipeline.unscopedBufs_of_arrays_shared (pcfgs (F := F)) adm (p := 0) launch₀1.win launch₀1.sharedIn launch₀1.arr_whole c (fun p c => dats (view W) p c) (fun _ _ => rfl)
    (view W c) (view (afterTc W) c) _ ?_ ?_
  · intro w
    match w with
    | ⟨12, _⟩ => exact (afterTc_edge W c).symm
    | ⟨13, _⟩ => exact (afterTc_node W c).symm
    | ⟨0, _⟩ => exact ((dats (view W) 0 c).arrAt_in 0 rfl _).trans (afterTc_other W c _ (by decide) (by decide)).symm
    | ⟨1, _⟩ => exact ((dats (view W) 0 c).arrAt_in 1 rfl _).trans (afterTc_other W c _ (by decide) (by decide)).symm
    | ⟨2, _⟩ => exact ((dats (view W) 0 c).arrAt_in 2 rfl _).trans (afterTc_other W c _ (by decide) (by decide)).symm
    | ⟨3, _⟩ => exact ((dats (view W) 0 c).arrAt_in 3 rfl _).trans (afterTc_other W c _ (by decide) (by decide)).symm
    | ⟨4, _⟩ => exact ((dats (view W) 0 c).arrAt_in 4 rfl _).trans (afterTc_other W c _ (by decide) (by decide)).symm
    | ⟨5, _⟩ => exact ((dats (view W) 0 c).arrAt_in 5 rfl _).trans (afterTc_other W c _ (by decide) (by decide)).symm
    | ⟨6, _⟩ => exact ((dats (view W) 0 c).arrAt_in 6 rfl _).trans (afterTc_other W c _ (by decide) (by decide)).symm
    | ⟨7, _⟩ => exact ((dats (view W) 0 c).arrAt_in 7 rfl _).trans (afterTc_other W c _ (by decide) (by decide)).symm
    | ⟨8, _⟩ => exact ((dats (view W) 0 c).arrAt_in 8 rfl _).trans (afterTc_other W c _ (by decide) (by decide)).symm
    | ⟨9, _⟩ => exact ((dats (view W) 0 c).arrAt_in 9 rfl _).trans (afterTc_other W c _ (by decide) (by decide)).symm
    | ⟨10, _⟩ => exact ((dats (view W) 0 c).arrAt_in 10 rfl _).trans (afterTc_other W c _ (by decide) (by decide)).symm
    | ⟨11, _⟩ => exact ((dats (view W) 0 c).arrAt_in 11 rfl _).trans (afterTc_other W c _ (by decide) (by decide)).symm
  · intro b hb
    refine afterTc_other W c b (fun h => hb ?_) (fun h => hb ?_)
    · rw [h]; exact Finset.mem_image.mpr ⟨(12 : Fin 14), Finset.mem_univ _, rfl⟩
    · rw [h]; exact Finset.mem_image.mpr ⟨(13 : Fin 14), Finset.mem_univ _, rfl⟩

end Cert.Proof.Run

end
-- ==== Proof.Whole.lean ====
/-
  The launch: every thread of the program from any memory whose list of root indices stays inside the table, to the
  memory `fin m` describes, with every counter back at zero.
-/
module

public import proofs.«01_k».proof.Proof.Run
public import Idealize.ShloMosaic.Lib.Pipeline.RegionArrays
public import Idealize.ShloMosaic.Lib.Pipeline.RegionsLoop

@[expose] public section

set_option maxRecDepth 16384

noncomputable section

namespace Cert.Proof.Run

open Cert.KernelIdeal Cert.KernelIdeal.Gen
open Cert.Proof.Sc
open Cert.Proof.Tc (dats body_obligation scr_zero scr_node scopedRest_scr scrAny scrNode scr)

open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ
local notation "DatT" => Dat τ (Elt F) (HIx 1) ℕ UU ℕ cfg1

variable (m : (ℓ : Loc nD τ sig) → Buf (Elt F) ℓ) (ρ : Dev nD → PrngReg)

/-! ## The buffers at the program's stages -/

/-- After the first host operations. -/
def B1 (d : Dev nD) : Valuation τ sig (Elt F) := StableHlo.after opsA (StableHlo.launchContents m d)
/-- The table, the padded list of row numbers and the result's buffer, as the SparseCore call finds them. -/
def xb (d : Dev nD) : Buf (Elt F) (xLoc d) := B1 m d (Proc.devRef .tc main_arg0)
def ib (d : Dev nD) : Buf (Elt F) (iLoc d) := B1 m d (Proc.devRef .tc main_v1)
def ob (d : Dev nD) : Buf (Elt F) (oLoc d) := B1 m d (Proc.devRef .tc main_v2)
/-- After the SparseCore call: the gathered rows written. -/
def B2 (d : Dev nD) : Valuation τ sig (Elt F) := Function.update (B1 m d) (Proc.devRef .tc main_v2) (outB (xb m) (ib m) d)
/-- After the second host operations. -/
def B3 (d : Dev nD) : Valuation τ sig (Elt F) := StableHlo.after opsB (B2 m d)
/-- After the TensorCore call. -/
def fin (d : Dev nD) : Valuation τ sig (Elt F) := afterTc (B3 m) d

/-! ## The launch element of the ghost state -/

/-- The TensorCore call's staging protocol lives in the second component. -/
abbrev EP : Emb (UR sig nD τ) 𝕄 := (Emb.inl : Emb (UR sig nD τ) (UR sig nD τ × Counters)).trans embR

theorem cellInj : Function.Injective (cellOf (nD := nD) (τ := τ) (Pipeline.pin (pcfgs (F := F)) adm)) := launch₀1.toP.cellOf_inj adm

/-- What a core is dealt for the TensorCore call. -/
abbrev G (d : Dev nD) : sProp 𝕄 :=
  iprop(Pipeline.cellsGhost (Pipeline.pin (pcfgs (F := F)) adm) EP 0 d ∗ Pipeline.toksInit (Pipeline.pin (pcfgs (F := F)) adm) EP 0 d)

def u₀ : UU := (initOf (K (F := F)).hsCells (K (F := F)).hsToks,
  (initOf (Pipeline.cells (Pipeline.pin (pcfgs (F := F)) adm) cellInj) (Pipeline.launchToks (Pipeline.pin (pcfgs (F := F)) adm) cellInj), 1))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (xb m) (ib m) (ob m)).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) EP cellInj) $$ HP with ⟨Hg, Ht⟩
  imodintro
  isplitl [HH]; · iexact HH
  isplitl [Hg Ht]
  · rw [bigSep_sep']
    isplitl [Hg]
    · rw [show (bigSep Finset.univ fun d : Dev nD => Pipeline.cellsGhost (Pipeline.pin (pcfgs (F := F)) adm) EP 0 d : sProp 𝕄)
        = bigSep Finset.univ fun d : Dev nD => bigSep Finset.univ fun p => Pipeline.cellsGhost (Pipeline.pin (pcfgs (F := F)) adm) EP p d from
        bigSep_congr fun d _ => (bigSep_univ_of_subsingleton (Φ := fun p => (Pipeline.cellsGhost (Pipeline.pin (pcfgs (F := F)) adm) EP p d : sProp 𝕄)) (0 : Fin 1)).symm]
      iexact Hg
    · rw [show (bigSep Finset.univ fun d : Dev nD => Pipeline.toksInit (Pipeline.pin (pcfgs (F := F)) adm) EP 0 d : sProp 𝕄)
        = bigSep Finset.univ fun d : Dev nD => bigSep Finset.univ fun p => Pipeline.toksInit (Pipeline.pin (pcfgs (F := F)) adm) EP p d from
        bigSep_congr fun d _ => (bigSep_univ_of_subsingleton (Φ := fun p => (Pipeline.toksInit (Pipeline.pin (pcfgs (F := F)) adm) EP p d : sProp 𝕄)) (0 : Fin 1)).symm]
      iexact Ht
  rw [show (bigSep Finset.univ fun thr : Thread nD τ => bigSep Finset.univ fun q : Fin 1 => (P (F := F) (xb m) (ib m) (ob m)).x q thr) = bigSep Finset.univ fun _ => iprop(emp) from
    bigSep_congr fun _ _ => bigSep_univ_of_subsingleton (0 : Fin 1), bigSep_emp']
  iempintro

/-! ## The SparseCore call's buffers among the rest -/

/-- The three buffers the SparseCore call is handed. -/
abbrev scRefs : Finset (DevRef τ sig) := {Proc.devRef .tc main_v1, Proc.devRef .tc main_arg0, Proc.devRef .tc main_v2}

theorem scRefs_sub : scRefs ⊆ Pipeline.ucRefs τ sig := by
  intro b hb
  simp only [scRefs, Finset.mem_insert, Finset.mem_singleton] at hb
  rcases hb with rfl | rfl | rfl <;> exact Finset.mem_filter.mpr ⟨StableHlo.devRef_mem_tcRefs _, by decide⟩

theorem held_sc (d : Dev nD) (W : Valuation τ sig (Elt F)) :
    (StableHlo.held (d : Thread nD τ) scRefs W : sProp 𝕄) = iprop((iLoc d ↦{fullShare} W (Proc.devRef .tc main_v1))
      ∗ (xLoc d ↦{fullShare} W (Proc.devRef .tc main_arg0)) ∗ (oLoc d ↦{fullShare} W (Proc.devRef .tc main_v2))) := by
  unfold StableHlo.held
  rw [SparseCore.bigSep_insert' (by decide), SparseCore.bigSep_insert' (by decide), bigSep_singleton]

theorem B2_v2 (d : Dev nD) : B2 m d (Proc.devRef .tc main_v2) = outB (xb m) (ib m) d := Function.update_self _ _ _
theorem B2_other (d : Dev nD) (b : DevRef τ sig) (h : b ≠ Proc.devRef .tc main_v2) : B2 m d b = B1 m d b := Function.update_of_ne h _ _

/-- Before the call: the call's own buffers and the others. -/
theorem sc_enter (d : Dev nD) : (StableHlo.held (d : Thread nD τ) (Pipeline.ucRefs τ sig) (B1 m d) : sProp 𝕄)
    ⊢ iprop((bigSep Finset.univ fun c : Fin ((K (F := F)).nCore 0) => (P (xb m) (ib m) (ob m)).st 0 d c)
        ∗ StableHlo.held (d : Thread nD τ) (Pipeline.ucRefs τ sig \ scRefs) (B1 m d)) := by
  rw [StableHlo.held_sub_split (d : Thread nD τ) scRefs_sub, held_sc, st0_eq]
  exact .rfl
/-- After it: all of them, the result's buffer at the gathered rows. -/
theorem sc_leave (d : Dev nD) : iprop((bigSep Finset.univ fun c : Fin ((K (F := F)).nCore 0) => (P (xb m) (ib m) (ob m)).dn 0 d c)
        ∗ StableHlo.held (d : Thread nD τ) (Pipeline.ucRefs τ sig \ scRefs) (B1 m d))
    ⊢ (StableHlo.held (d : Thread nD τ) (Pipeline.ucRefs τ sig) (B2 m d) : sProp 𝕄) := by
  rw [StableHlo.held_sub_split (d : Thread nD τ) scRefs_sub (B2 m d), held_sc, dn0_eq, B2_v2,
    B2_other m d _ (StableHlo.devRef_ne_of_ne (by decide)), B2_other m d _ (StableHlo.devRef_ne_of_ne (by decide)),
    StableHlo.held_congr (d : Thread nD τ) (S := Pipeline.ucRefs τ sig \ scRefs) (V := B2 m d) (V' := B1 m d) fun b hb =>
      B2_other m d b fun h => (Finset.mem_sdiff.mp hb).2 (by rw [h]; decide)]
  exact .rfl

/-! ## @main on the TensorCore -/

theorem opsA_bufs : ∀ op ∈ opsA (F := F), op.bufs ⊆ Pipeline.ucRefs τ sig := by
  intro op hop
  refine Pipeline.sub_ucRefs op ?_
  simp only [opsA, List.mem_cons, List.mem_nil_iff, or_false] at hop
  rcases hop with rfl | rfl | rfl
  all_goals
    simp only [StableHlo.nullary_bufs, StableHlo.unary_bufs, StableHlo.binary_bufs, StableHlo.reshape_bufs, Finset.insert_subset_iff, Finset.singleton_subset_iff]
    repeat' apply And.intro
    all_goals exact StableHlo.devRef_mem_tcRefs _
theorem opsB_bufs : ∀ op ∈ opsB (F := F), op.bufs ⊆ Pipeline.ucRefs τ sig := by
  intro op hop
  refine Pipeline.sub_ucRefs op ?_
  simp only [opsB, List.mem_cons, List.mem_nil_iff, or_false] at hop
  rcases hop with rfl | rfl | rfl | rfl | rfl | rfl | rfl | rfl | rfl | rfl | rfl | rfl | rfl | rfl
  all_goals
    simp only [StableHlo.nullary_bufs, StableHlo.unary_bufs, StableHlo.binary_bufs, StableHlo.reshape_bufs, Finset.insert_subset_iff, Finset.singleton_subset_iff]
    repeat' apply And.intro
    all_goals exact StableHlo.devRef_mem_tcRefs _
theorem opsA_fresh : ∀ op ∈ opsA (F := F), op.fresh = ∅ := by
  intro op hop
  simp only [opsA, List.mem_cons, List.mem_nil_iff, or_false] at hop
  rcases hop with rfl | rfl | rfl <;> rfl
theorem opsB_fresh : ∀ op ∈ opsB (F := F), op.fresh = ∅ := by
  intro op hop
  simp only [opsB, List.mem_cons, List.mem_nil_iff, or_false] at hop
  rcases hop with rfl | rfl | rfl | rfl | rfl | rfl | rfl | rfl | rfl | rfl | rfl | rfl | rfl | rfl <;> rfl

abbrev FIN (d : Dev nD) : sProp 𝕄 := StableHlo.held (d : Thread nD τ) (Pipeline.ucRefs τ sig) (fin m d)

theorem region_pre (W : Dev nD → Valuation τ sig (Elt F)) (c : Dev nD) : (region W).pre c
    = iprop((dats (view W) 0 c).arrays ((dats (view W) 0 c).arrAt · 0) ∗ emp ∗ rest W c ∗ ∃ Wd, owes (c : Thread nD τ) (0 : CellTallies nD τ sig (HIx 1)) Wd) := rfl
theorem region_post (W : Dev nD → Valuation τ sig (Elt F)) (c : Dev nD) : (region W).post c
    = iprop((dats (view W) 0 c).arrays ((dats (view W) 0 c).arrAt · cfg1.N) ∗ emp ∗ rest W c ∗ ∃ Wd, owes (c : Thread nD τ) (0 : CellTallies nD τ sig (HIx 1)) Wd) := rfl

/-- The TensorCore call, between the handshake state before and after. -/
theorem tc_step (κ : GSem nD τ sig → ℕ) (d : Dev nD) :
    iprop((K (F := F)).ctx EH (P (xb m) (ib m) (ob m)) κ ∗ (K (F := F)).tcSt EH d 1 ∗ boundary (d : Thread nD τ)
        ∗ StableHlo.held (d : Thread nD τ) (Pipeline.ucRefs τ sig) (B3 m d) ∗ G d)
      ⊢ wp frame (wpE ((K (F := F)).defs (D (F := F))) 𝒱 (SparseCore.T d) none) Set.univ
          (SparseCore.liftProg (Prog.op (.customCall (Pipeline.entry (p := (0 : Fin 1))) ()) fun _ => Prog.ret PUnit.unit))
          fun _ => iprop((K (F := F)).tcSt EH d 1 ∗ boundary (d : Thread nD τ) ∗ FIN m d) := by
  refine BI.BIBase.Entails.trans ?_ ((K (F := F)).wp_liftProg (D (F := F)) 𝒱 (SparseCore.T d) Set.univ none _ _)
  unfold SparseCore.Cfg.tcSt SparseCore.Cfg.ctx
  rw [(K (F := F)).Otc_end d le_rfl]
  iintro ⟨⟨#Hlv, -⟩, ⟨⟨%W, -, HO⟩, Hst⟩, Hb, Hh, Hg, Ht⟩
  ihave Hh' := (enter (B3 m) d) $$ Hh
  icases Hh' with ⟨Ha, Hr⟩
  iapply (Pipeline.RegionSeg.wp (pcfgs (F := F)) adm (dats (view (B3 m))) none cellInj EP (defs₀ (F := F)) Variants.none (K (F := F)).L (K (F := F)).lev
    (region (B3 m)) d none (fun _ h => nomatch h) (fun _ => Prog.ret PUnit.unit) _)
  rw [region_pre, region_post]
  isplitl [Hst]
  · iintro ⟨Hb, Ha, -, Hr, %W', HO⟩
    rw [wp_ret]; imodintro
    isplitl [HO Hst]
    · isplitl [HO]
      · iexists W'
        isplitr
        · ipureintro
          intro p _
          cases h : p.2 with
          | none => rw [SparseCore.Cfg.lev_none]; exact Nat.zero_le _
          | some q => exact ((K (F := F)).lev_some_le _ q).trans (by have := q.isLt; show 8 * q.val + 7 ≤ 8 * 1; omega)
        iexact HO
      iexact Hst
    isplitl [Hb]; · iexact Hb
    iapply (leave (B3 m) d)
    isplitl [Ha]; · iexact Ha
    iexact Hr
  isplitl [Hb]; · iexact Hb
  isplitl [Ha Hr HO]
  · isplitl [Ha]; · iexact Ha
    isplitr; · iempintro
    isplitl [Hr]; · iexact Hr
    iexists W; iexact HO
  isplitr; · iexact Hlv
  isplitl [Hg]; · iexact Hg
  iexact Ht

theorem hmain (κ : GSem nD τ sig → ℕ) (d : Dev nD) :
    iprop((K (F := F)).ctx EH (P (xb m) (ib m) (ob m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄)
    = StableHlo.held (d : Thread nD τ) (Pipeline.ucRefs τ sig) (StableHlo.launchContents m d) from Pipeline.unscopedBufs_held d (StableHlo.launchContents m d)]
  iintro ⟨#Hctx, Hst, ⟨Hb, Hh, Hts, -⟩, HG⟩
  iapply (StableHlo.wp_seq 𝒱 none Set.univ d (Pipeline.ucRefs τ sig) _ opsA opsA_bufs opsA_fresh (StableHlo.launchContents m d)) $$ [Hb Hh]
  · isplitl [Hb] <;> iassumption
  iintro ⟨Hb, Hh⟩
  ihave Hh' := (show (StableHlo.held (d : Thread nD τ) (Pipeline.ucRefs τ sig) (StableHlo.after opsA (StableHlo.launchContents m d)) : sProp 𝕄) ⊢ _ from sc_enter m d) $$ Hh
  icases Hh' with ⟨Hs, Hh⟩
  rw [wp_bind]
  iapply ((K (F := F)).wp_run (D (F := F)) 𝒱 (EH := EH) (P := P (xb m) (ib m) (ob m)) κ d 0) $$ [Hst Hs Hh Hb Hts HG]
  isplitr; · iexact Hctx
  isplitl [Hst]; · iexact Hst
  isplitl [Hs]; · iexact Hs
  iintro ⟨Hst, Hs⟩
  ihave Hh := (sc_leave m d) $$ [Hs Hh]
  · isplitl [Hs] <;> iassumption
  iapply (StableHlo.wp_seq 𝒱 none Set.univ d (Pipeline.ucRefs τ sig) _ opsB opsB_bufs opsB_fresh (B2 m d)) $$ [Hb Hh]
  · isplitl [Hb] <;> iassumption
  iintro ⟨Hb, Hh⟩
  ihave Hw := (tc_step m κ d) $$ [Hst Hb Hh HG]
  · isplitr; · iexact Hctx
    isplitl [Hst]; · iexact Hst
    isplitl [Hb]; · iexact Hb
    isplitl [Hh]; · iexact Hh
    iexact HG
  iapply wp_wand $$ Hw
  iintro %_ ⟨Hst, Hb, Hh⟩
  isplitl [Hst]; · iexact Hst
  isplitl [Hh]; · iexact Hh
  isplitl [Hb] <;> iassumption

/-! ## The final memory -/

def fq (d : Dev nD) (s' : Phys nD τ sig (Elt F)) : Prop := ∀ b ∈ Pipeline.ucRefs τ sig, s'.mem.mem (d, b) = fin m d b

theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (Pipeline.ucRefs τ sig) (fun b => ((d : Dev nD), b)) (fun b => fin m d b) s') $$ [Hh HSI]
  · isplitl [Hh] <;> iassumption
  icases Hr with ⟨%h, -⟩
  ipureintro; exact h

/-- Every unscoped buffer of every device ends at `fin m`, and every counter at zero. -/
def QC : PUnit × MemSt nD τ sig (Elt F) → Prop :=
  fun r => (∀ c : Dev nD, ∀ b ∈ Pipeline.ucRefs τ sig, r.2.mem (c, b) = fin m c b) ∧ r.2.sem = fun _ => 0

theorem run_main [∀ e, Nonempty (Elt F e)] (hpre : InTab (ib m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (xb m) (ib m) (ob m)) (A := ∅) facts v₀
    (fun q hq => match q with | 0 => nomatch hq)
    (fun q _ => match q with | 0 => tileObl (xb m) (ib m) (ob m) facts hpre)
    (fun q _ => match q with | 0 => SparseCore.Cfg.VecSplit.of_plain (vecSplit (xb m) (ib m) (ob m)))
    m ρ main (fun d => G d) (FIN m) (u₀ (F := F)) (sep_elim_left.trans (hu₀ m)) (hmain m ρ) (fq m) (hfin m) (QC m) (fun _ h hz => ⟨h, hz⟩)

end Cert.Proof.Run

end
-- ==== Proof.Same.lean ====
/-
  The program and its reading at the ideal instance are one text: their tables of bodies and their threads are equal.
-/
module

public import proofs.«01_k».proof.Defs
public import proofs.«01_k».proof.Proof.Gen.Kernel
public import proofs.«01_k».proof.Proof.Gen.KernelIdeal

@[expose] public section

set_option maxRecDepth 16384

noncomputable section

namespace Cert.Proof.Same

open Idealize.ShloMosaic Idealize.SL.Sem

variable {F : FTy → Type} [FloatOps F]

/-- The SparseCore kernel's task is one text in the two programs. -/
theorem scBody_eq :
    (fun c s => Cert.Kernel.cc0_k (F := F) (fun | 0 => c | 1 => s | ⟨_ + 2, h⟩ => absurd h (Nat.not_lt.2 (Nat.le_add_left _ _))) (Memref.whole Cert.Kernel.main_arg0_scv) (Memref.isWhole_whole _) (Memref.whole Cert.Kernel.main_v1_scv) (Memref.isWhole_whole _) (Memref.whole Cert.Kernel.main_v2_scv) (Memref.isWhole_whole _) (Memref.whole Cert.Kernel.cc0_scratch0) (Memref.isWhole_whole _) (Memref.whole Cert.Kernel.cc0_scratch1) (Memref.isWhole_whole _) Cert.Kernel.cc0_scratch2 Cert.Kernel.cc0_scoped0 Cert.Kernel.cc0_scoped1)
    = (fun c s => Cert.KernelIdeal.cc0_k (F := F) (fun | 0 => c | 1 => s | ⟨_ + 2, h⟩ => absurd h (Nat.not_lt.2 (Nat.le_add_left _ _))) (Memref.whole Cert.KernelIdeal.main_arg0_scv) (Memref.isWhole_whole _) (Memref.whole Cert.KernelIdeal.main_v1_scv) (Memref.isWhole_whole _) (Memref.whole Cert.KernelIdeal.main_v2_scv) (Memref.isWhole_whole _) (Memref.whole Cert.KernelIdeal.cc0_scratch0) (Memref.isWhole_whole _) (Memref.whole Cert.KernelIdeal.cc0_scratch1) (Memref.isWhole_whole _) Cert.KernelIdeal.cc0_scratch2 Cert.KernelIdeal.cc0_scoped0 Cert.KernelIdeal.cc0_scoped1) := rfl
/-- Label by label. -/
theorem defs_task (c s) (a) : (Cert.Kernel.defs₀ (F := F)) (.scVector c s) 0 a = Cert.KernelIdeal.defs₀ (F := F) (.scVector c s) 0 a :=
  congrArg (fun body => SparseCore.onTile _ _ body PUnit.unit c s) (scBody_eq (F := F))
theorem defs_task_other (c s) (a) : (Cert.Kernel.defs₀ (F := F)) (.scVector c s) 1 a = Cert.KernelIdeal.defs₀ (F := F) (.scVector c s) 1 a := rfl
theorem defs_scalar (c) (l) : (Cert.Kernel.defs₀ (F := F)) (.scScalar c) l = Cert.KernelIdeal.defs₀ (F := F) (.scScalar c) l := rfl
theorem defs_tc_zero  : (Cert.Kernel.defs₀ (F := F)) .tc 0 = Cert.KernelIdeal.defs₀ (F := F) .tc 0 := rfl
theorem defs_tc_one  : (Cert.Kernel.defs₀ (F := F)) .tc 1 = Cert.KernelIdeal.defs₀ (F := F) .tc 1 := rfl
theorem defs₀_eq : (Cert.Kernel.defs₀ : Defs _ _ _ (Elt F) _) = Cert.KernelIdeal.defs₀ :=
  funext fun p => funext fun l => match p, l with
    | .tc, 0 => defs_tc_zero
    | .tc, 1 => defs_tc_one
    | .scScalar c, l => defs_scalar c l
    | .scVector c s, 0 => funext (defs_task c s)
    | .scVector c s, 1 => funext (defs_task_other c s)
theorem threads_eq : (Cert.Kernel.threads (F := F)) = Cert.KernelIdeal.threads := rfl
/-- The two programs' bodies are one table. -/
theorem defs_eq : (Cert.Kernel.defs (F := F)) = Cert.KernelIdeal.defs :=
  congrArg (fun D => (Cert.KernelIdeal.sc (F := F)).defs (Pipeline.defs Cert.KernelIdeal.pcfgs D)) defs₀_eq

end Cert.Proof.Same

end
-- ==== Proof.Frames.lean ====
/-
  The frames: from a memory whose row numbers stay inside the table, each program runs, leaves its arguments as they were
  and every counter at zero.
-/
module

public import proofs.«01_k».proof.Defs
public import proofs.«01_k».proof.Proof.Whole
public import proofs.«01_k».proof.Proof.Same
public import proofs.«01_k».proof.Proof.Gen.Kernel
public import proofs.«01_k».proof.Proof.Gen.Pre_root_in_rows
public import proofs.«01_k».proof.Proof.Gen.ReferenceIdeal.Run
public import Idealize.ShloMosaic.Lib.ReduceAll
public import Idealize.ShloMosaic.Lib.Pipeline.Value

@[expose] public section

set_option maxRecDepth 16384

noncomputable section

namespace Cert.Proof.Run

open Cert.KernelIdeal Cert.KernelIdeal.Gen
open Cert.Proof.Sc
open Idealize.ShloMosaic Idealize.ShloMosaic.TcCoe Idealize.SL.Sem

variable {F : FTy → Type} [FloatOps F]

/-! ## The list of row numbers -/

/-- The range test, read at one word. -/
theorem word_in_rows (v : BitVec 32) (e : IntOp.andi (IntOp.cmpi .sge v 0#32) (IntOp.cmpi .slt v 10000#32) = 1#1) : v.toNat < 10000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The range test over the whole list gives the bound at every entry. -/
theorem rows_of_pre (x0 x1) (a : IVec S2000 32) (x3 x4 x5 x6 x7 x8 x9 x10 x11 x12)
    (h : (Cert.Pre_root_in_rows.fn (F := F) x0 x1 a x3 x4 x5 x6 x7 x8 x9 x10 x11 x12 : IVec S_ 1) = fun _ => 1#1) (j : S2000.Idx) : (a j).toNat < 10000 := by
  have e := congrFun h (fun i : Fin 0 => i.elim0)
  unfold Cert.Pre_root_in_rows.fn at e
  haveI : Subsingleton Cert.Pre_root_in_rows.S_.Idx := ⟨fun a b => funext fun i => i.elim0⟩
  have e' := Host.reduce_andi_all _ _ _ _ _ e j
  exact word_in_rows _ (by simpa only [andi, cmpi, broadcastInDim, constantI] using e')

section Host

variable (m : (ℓ : Loc nD τ sig) → Buf (Elt F) ℓ) (ρ : Dev nD → PrngReg)

/-- The padded list: the argument's entries, then zeros. -/
theorem ib_eq (d : Dev nD) : (ib m d : S2048.Idx → Elt F .i32)
    = concatenate S2048 0 [⟨S2000, m ((d.tc : Thread nD τ).loc main_arg2)⟩, ⟨S48, broadcastInDim S48 ![] bcast_S_S48 (constantI S_ 32 0#32)⟩] concatenates_S2000_S48_S2048_d0 := by
  show StableHlo.after opsA (StableHlo.launchContents m d) (Proc.devRef .tc main_v1) = _
  simp only [opsA, StableHlo.after_cons, StableHlo.after_nil]
  rw [StableHlo.binary_result]
  rw [StableHlo.unary_result, StableHlo.nullary_result]
  rw [StableHlo.unary_result_ne _ _ _ _ _ _ (by decide), StableHlo.nullary_result_ne _ _ _ _ (by decide)]

/-- Entry `n` of the argument list. -/
abbrev rootIx (n : Fin 2000) : S2000.Idx := fun a => match a with | ⟨0, _⟩ => n
abbrev padIx (n : Fin 48) : S48.Idx := fun a => match a with | ⟨0, _⟩ => n

theorem ib_low (d : Dev nD) (j : S2048.Idx) (h : (j 0).val < 2000) :
    ib m d j = m ((d.tc : Thread nD τ).loc main_arg2) (rootIx ⟨(j 0).val, h⟩) := by
  rw [ib_eq]
  exact concatenate_pair_apply_left (s₁ := S2000) (s₂ := S48) 0 _ _ _ j rfl (rootIx ⟨(j 0).val, h⟩) (fun b => match b with | ⟨0, _⟩ => rfl)

theorem ib_high (d : Dev nD) (j : S2048.Idx) (h : 2000 ≤ (j 0).val) : ib m d j = 0#32 := by
  rw [ib_eq]
  have hj : (j 0).val < 2048 := (j 0).isLt
  rw [concatenate_pair_apply_right (s₁ := S2000) (s₂ := S48) 0 _ _ _ j rfl rfl (padIx ⟨(j 0).val - 2000, by omega⟩) (fun b hb => absurd (match b with | ⟨0, _⟩ => rfl) hb) (by
    show (j 0).val - 2000 + 2000 = (j 0).val; omega)]
  rfl

theorem inTab_of (h : ∀ (d : Dev nD) (j : S2000.Idx), (m ((d.tc : Thread nD τ).loc main_arg2) j : BitVec 32).toNat < 10000) : InTab (ib m) := by
  intro d j
  by_cases hj : (j 0).val < 2000
  · rw [ib_low m d j hj]; exact h d _
  · rw [ib_high m d j (by omega)]; decide

/-! ## The arguments -/

abbrev WA : List (Ref sig .tc) := [main_c, main_v0, main_v1]
abbrev WB : List (Ref sig .tc) := [main_cst, main_v3, main_v4, main_v5, main_v6, main_v7, main_v8, main_v9, main_v10, main_v11, main_v12, main_v13, main_v14, main_v15]

theorem opsA_writes : (opsA : List (HloOp τ sig (Elt F))).Forall fun op => op.writes ⊆ (WA.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)
theorem opsB_writes : (opsB : List (HloOp τ sig (Elt F))).Forall fun op => op.writes ⊆ (WB.map (Proc.devRef (τ := τ) .tc)).toFinset := by
  simp only [List.Forall, StableHlo.nullary_writes, StableHlo.unary_writes, StableHlo.binary_writes, StableHlo.reshape_writes, Finset.singleton_subset_iff, List.mem_toFinset]
  repeat' apply And.intro
  all_goals exact List.mem_map_of_mem (by decide)

theorem B1_keep (d : Dev nD) (b : Ref sig .tc) (h : b ∉ WA) : B1 m d (Proc.devRef .tc b) = m ((d.tc : Thread nD τ).loc b) :=
  StableHlo.after_of_writes_sub opsA _ opsA_writes h

/-- A buffer no operation before the TensorCore call writes is as at the launch. -/
theorem B3_keep (d : Dev nD) (b : Ref sig .tc) (hA : b ∉ WA) (h2 : b ≠ main_v2) (hB : b ∉ WB) :
    B3 m d (Proc.devRef .tc b) = m ((d.tc : Thread nD τ).loc b) :=
  (StableHlo.after_of_writes_sub opsB _ opsB_writes hB).trans ((B2_other m d _ (StableHlo.devRef_ne_of_ne h2)).trans (B1_keep m d b hA))

/-- Nor does the call write it, if it is not one of the two outputs. -/
theorem fin_keep (d : Dev nD) (b : Ref sig .tc) (hA : b ∉ WA) (h2 : b ≠ main_v2) (hB : b ∉ WB) (h0 : b ≠ main_v16_0) (h1 : b ≠ main_v16_1) :
    fin m d (Proc.devRef .tc b) = m ((d.tc : Thread nD τ).loc b) :=
  (afterTc_other (B3 m) d b h0 h1).trans (B3_keep m d b hA h2 hB)

/-- What the run says of one buffer of the TensorCore. -/
theorem QC.at {r : PUnit × MemSt nD τ sig (Elt F)} (h : QC m r) (d : Dev nD) (b : Ref sig .tc) (hb : b.isScoped = false := by decide) :
    r.2.mem ((d.tc : Thread nD τ).loc b) = fin m d (Proc.devRef .tc b) :=
  h.1 d _ (Finset.mem_filter.mpr ⟨StableHlo.devRef_mem_tcRefs _, by simpa using hb⟩)

theorem QC.keep {r : PUnit × MemSt nD τ sig (Elt F)} (h : QC m r) (d : Dev nD) (b : Ref sig .tc) (hb : b.isScoped = false := by decide)
    (hA : b ∉ WA := by decide) (h2 : b ≠ main_v2 := by decide) (hB : b ∉ WB := by decide) (h0 : b ≠ main_v16_0 := by decide) (h1 : b ≠ main_v16_1 := by decide) :
    r.2.mem ((d.tc : Thread nD τ).loc b) = m ((d.tc : Thread nD τ).loc b) :=
  (h.at m d b hb).trans (fin_keep m d b hA h2 hB h0 h1)

/-- All thirteen arguments are as they were. -/
theorem QC.args {r : PUnit × MemSt nD τ sig (Elt F)} (h : QC m r) (d : Dev nD) :
    r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12) :=
  ⟨h.keep m d main_arg0, h.keep m d main_arg1, h.keep m d main_arg2, h.keep m d main_arg3, h.keep m d main_arg4, h.keep m d main_arg5, h.keep m d main_arg6, h.keep m d main_arg7, h.keep m d main_arg8, h.keep m d main_arg9, h.keep m d main_arg10, h.keep m d main_arg11, h.keep m d main_arg12⟩

end Host

/-! ## The frames -/

/-- The run, its arguments and its counters, at any instance. -/
theorem ends [∀ e, Nonempty (Elt F e)] (m : (ℓ : Loc nD τ sig) → Buf (Elt F) ℓ) (ρ : Dev nD → PrngReg) (hpre : InTab (ib m)) :
    θ_run (Cert.KernelIdeal.defs (F := F)) (Cert.KernelIdeal.threads (F := F)) ⟨m, fun _ => 0, ρ⟩ (fun r => (∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8)
      ∧ r.2.mem ((d.tc : Thread nD τ).loc main_arg9) = m ((d.tc : Thread nD τ).loc main_arg9)
      ∧ r.2.mem ((d.tc : Thread nD τ).loc main_arg10) = m ((d.tc : Thread nD τ).loc main_arg10)
      ∧ r.2.mem ((d.tc : Thread nD τ).loc main_arg11) = m ((d.tc : Thread nD τ).loc main_arg11)
      ∧ r.2.mem ((d.tc : Thread nD τ).loc main_arg12) = m ((d.tc : Thread nD τ).loc main_arg12))
      ∧ r.2.sem = fun _ => 0) :=
  (θ_run Cert.KernelIdeal.defs _ _).mono (fun _ h => ⟨fun c => h.args m c, h.2⟩) (run_main m ρ hpre)

theorem frame_kernelIdeal : Cert.quiescent_KernelIdeal := fun m ρ hp =>
  ends (F := Ideal) m ρ (inTab_of m fun d j => rows_of_pre _ _ _ _ _ _ _ _ _ _ _ _ _ (hp d) j)

theorem frame_kernel : Cert.quiescent_Kernel := fun m ρ hp => by
  have h := ends (F := Bits) m ρ (inTab_of (F := Bits) m fun d j => rows_of_pre (F := Bits) _ _ _ _ _ _ _ _ _ _ _ _ _ (hp d) j)
  rw [← Same.defs_eq] at h
  exact h

theorem frame_reference : Cert.quiescent_ReferenceIdeal := fun m ρ _ =>
  (θ_run Cert.ReferenceIdeal.defs _ _).mono (fun r h => ⟨fun c => (h c).2.2, Idealize.ShloMosaic.sem_eq_zero_of_no_sems (by decide) r.2⟩)
    (Cert.ReferenceIdeal.Value.run (F := Ideal) m ρ)

end Cert.Proof.Run

end
-- ==== Proof.Spec.lean ====
module

public import Idealize.ShloMosaic.PureOps.Ideal.Laws
public import Idealize.ShloMosaic.Lib.IdealHost
public import Idealize.ShloMosaic.Lib.Pointwise

/-!
# The layer over the real numbers

For finite inputs every intermediate value of the layer is a real number. This file names those
values and proves the equations between extended reals that lead to them, and the equations that
join the two ways of normalising and of mixing the two branches.
-/

@[expose] public section

noncomputable section

namespace Cert.Proof.Val

open Idealize.ShloMosaic
open scoped BigOperators

/-! ## Extended reals that are reals -/

/-- A finite sum of reals, seen as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

/-- A quotient of reals by a nonzero real is the real quotient. -/
theorem div_real {b : ℝ} (a : ℝ) (h : b ≠ 0) : Ideal.div (a : EReal) (b : EReal) = ((a / b : ℝ) : EReal) := by
  rw [Ideal.div_coe h, ← EReal.coe_mul, mul_one_div]

/-- The hyperbolic tangent is always a real number. -/
theorem tanh_real (x : EReal) : ∃ r : ℝ, Ideal.tanh x = (r : EReal) := by
  induction x using EReal.rec with
  | bot => exact ⟨-1, by simp⟩
  | coe r => exact ⟨_, rfl⟩
  | top => exact ⟨1, by simp⟩

/-- The scores of a branch: real, whatever the hidden layer holds. -/
theorem score_real {ι : Type} [Fintype ι] (h : ι → EReal) (w : ι → EReal) (b : EReal)
    (hw : ∀ k, ∃ r : ℝ, w k = (r : EReal)) (hb : ∃ r : ℝ, b = (r : EReal)) :
    ∃ r : ℝ, ∑ k, Ideal.tanh (h k) * w k + b = (r : EReal) := by
  choose t ht using fun k => tanh_real (h k)
  choose v hv using hw
  obtain ⟨c, rfl⟩ := hb
  refine ⟨∑ k, t k * v k + c, ?_⟩
  simp only [ht, hv, EReal.coe_add, coe_sum, EReal.coe_mul]

/-- A real factor that is not negative distributes over every sum of extended reals. -/
theorem add_mul_real (a b : EReal) {c : ℝ} (hc : 0 ≤ c) : (a + b) * (c : EReal) = a * c + b * c :=
  EReal.right_distrib_of_nonneg_of_ne_top (EReal.coe_nonneg.mpr hc) (EReal.coe_ne_top c) a b

/-! ## The exponential linear unit -/

/-- The exponential linear unit of a real. -/
def elu (r : ℝ) : ℝ := if 0 < r then r else Real.exp r - 1

/-- Its form by one choice. -/
theorem elu_choice (r : ℝ) : (if 0 < (r : EReal) then (r : EReal) else Ideal.exp (r : EReal) - 1) = (elu r : EReal) := by
  unfold elu
  by_cases h : 0 < r
  · simp [h]
  · simp [h]

/-- Its form where the exponential sees zero in place of a positive argument. -/
theorem elu_guarded (r : ℝ) :
    (if 0 < (r : EReal) then (r : EReal) else Ideal.exp (if 0 < (r : EReal) then 0 else (r : EReal)) - 1) = (elu r : EReal) := by
  unfold elu
  by_cases h : 0 < r
  · simp [h]
  · simp [h]

/-! ## Batch normalisation -/

/-- The reciprocal root of a positive number is a real that is not negative, and dividing by the root
is multiplying by it. -/
theorem root_real {w : EReal} (hw : 0 < w) :
    ∃ s : ℝ, Ideal.rsqrt w = (s : EReal) ∧ ∀ y : EReal, Ideal.div y (Ideal.sqrt w) = y * (s : EReal) := by
  induction w using EReal.rec with
  | bot => simp at hw
  | coe r =>
    have hr : 0 < r := EReal.coe_pos.mp hw
    have hs : Real.sqrt r ≠ 0 := (Real.sqrt_pos.mpr hr).ne'
    refine ⟨(Real.sqrt r)⁻¹, ?_, fun y => ?_⟩
    · simp [hr.ne', not_lt.mpr hr.le]
    · have e : Ideal.sqrt (r : EReal) = ((Real.sqrt r : ℝ) : EReal) := by
        simp [not_lt.mpr hr.le]
      rw [e, Ideal.div_coe hs, one_div]
  | top =>
    refine ⟨0, by simp, fun y => ?_⟩
    simp [Ideal.div]

/-- Normalising by scale and shift computed beforehand is subtracting the mean, dividing by the root and
then scaling and shifting. The mean may be infinite. -/
theorem norm_eq (r g : ℝ) (u b : EReal) {w : EReal} (hw : 0 < w) :
    Ideal.div ((r : EReal) - u) (Ideal.sqrt w) * (g : EReal) + b
      = (r : EReal) * ((g : EReal) * Ideal.rsqrt w) + (b - u * ((g : EReal) * Ideal.rsqrt w)) := by
  obtain ⟨s, hs, hd⟩ := root_real hw
  rw [hs, hd, mul_assoc, mul_comm (s : EReal), ← EReal.coe_mul]
  generalize g * s = t
  induction u using EReal.rec with
  | coe u =>
    induction b using EReal.rec with
    | bot => simp
    | coe b =>
      simp only [← EReal.coe_sub, ← EReal.coe_add, ← EReal.coe_mul]
      congr 1; ring
    | top => simp only [← EReal.coe_sub, ← EReal.coe_mul, EReal.top_sub_coe, EReal.coe_add_top]
  | bot =>
    rw [EReal.coe_sub_bot, sub_eq_add_neg]
    rcases lt_trichotomy t 0 with h | rfl | h
    · rw [EReal.top_mul_coe_of_neg h, EReal.bot_mul_coe_of_neg h]; simp
    · simp
    · rw [EReal.top_mul_coe_of_pos h, EReal.bot_mul_coe_of_pos h]
      induction b using EReal.rec <;> simp [← EReal.coe_mul]
  | top =>
    rw [EReal.sub_top, sub_eq_add_neg]
    rcases lt_trichotomy t 0 with h | rfl | h
    · rw [EReal.top_mul_coe_of_neg h, EReal.bot_mul_coe_of_neg h]
      induction b using EReal.rec <;> simp [← EReal.coe_mul]
    · simp
    · rw [EReal.top_mul_coe_of_pos h, EReal.bot_mul_coe_of_pos h]; simp

/-! ## Softmax -/

/-- The largest of finitely many values, one of them a real and none of them infinite upwards, is a real. -/
theorem max_real {ι : Type} [Fintype ι] (z : ι → EReal) (h1 : ∀ i, z i ≠ ⊤) (i : ι) (h2 : z i ≠ ⊥) :
    ∃ m : ℝ, Finset.univ.fold max (⊥ : EReal) z = (m : EReal) := by
  have hle : z i ≤ Finset.univ.fold max (⊥ : EReal) z :=
    Finset.le_fold_max (z i) |>.mpr (.inr ⟨i, Finset.mem_univ i, le_rfl⟩)
  have hlt : Finset.univ.fold max (⊥ : EReal) z < ⊤ :=
    Finset.fold_max_lt ⊤ |>.mpr ⟨bot_lt_top, fun k _ => lt_top_iff_ne_top.mpr (h1 k)⟩
  refine ⟨_, (EReal.coe_toReal hlt.ne ?_).symm⟩
  intro hb
  rw [hb] at hle
  exact h2 (le_bot_iff.mp hle)

/-- The share of one member: its weight over the sum of all weights, a weight being the exponential of the
score where the member counts and zero where it does not. -/
def share {ι : Type} [Fintype ι] (s a : ι → ℝ) (i : ι) : ℝ := Real.exp (s i) * a i / ∑ k, Real.exp (s k) * a k

/-- Softmax of scores that are minus infinity where a member does not count: subtracting the largest score
first changes nothing, and the members that do not count have share zero. -/
theorem softmax_masked {ι : Type} [Fintype ι] (s a : ι → ℝ) (ha : ∀ i, a i = 0 ∨ a i = 1) (hs : ∃ i, a i = 1)
    (z : ι → EReal) (hz : ∀ i, z i = if 0 < a i then (s i : EReal) else ⊥) (i : ι) :
    Ideal.div (Ideal.exp (z i - max ⊥ (Finset.univ.fold max (⊥ : EReal) z)))
        (∑ k, Ideal.exp (z k - max ⊥ (Finset.univ.fold max (⊥ : EReal) z)))
      = (share s a i : EReal) := by
  obtain ⟨i₀, h₀⟩ := hs
  obtain ⟨m, hm⟩ := max_real z (fun k => by rw [hz]; split <;> simp) i₀ (by rw [hz, h₀]; simp)
  have he : ∀ k, Ideal.exp (z k - (m : EReal)) = ((Real.exp (s k) * a k * Real.exp (-m) : ℝ) : EReal) := fun k => by
    rw [hz]
    rcases ha k with h | h
    · simp [h]
    · simp only [h, zero_lt_one, if_true, ← EReal.coe_sub, Ideal.exp_coe, mul_one, ← Real.exp_add]
      rw [sub_eq_add_neg]
  have hpos : 0 < ∑ k, Real.exp (s k) * a k := by
    refine Finset.sum_pos' (fun k _ => ?_) ⟨i₀, Finset.mem_univ _, ?_⟩
    · rcases ha k with h | h <;> simp [h, Real.exp_nonneg]
    · rw [h₀, mul_one]; exact Real.exp_pos _
  rw [hm, bot_sup_eq]
  simp only [he]
  rw [← coe_sum, ← Finset.sum_mul, div_real _ (mul_pos hpos (Real.exp_pos _)).ne', share,
    mul_div_mul_right _ _ (Real.exp_pos (-m)).ne']

/-- A sum weighted by shares is the weighted sum over the sum of the weights. -/
theorem sum_share {ι : Type} [Fintype ι] (s a x : ι → ℝ) :
    ∑ i, share s a i * x i = (∑ i, Real.exp (s i) * a i * x i) / ∑ k, Real.exp (s k) * a k := by
  unfold share
  rw [Finset.sum_div]
  exact Finset.sum_congr rfl fun i _ => by ring

/-- The two branches mixed by the softmax of their scores. -/
def mix (p q x v : EReal) : EReal :=
  Ideal.div (Ideal.exp (p - max p q)) (Ideal.exp (p - max p q) + Ideal.exp (q - max p q)) * x
    + Ideal.div (Ideal.exp (q - max p q)) (Ideal.exp (p - max p q) + Ideal.exp (q - max p q)) * v

/-- The two branches mixed with one division at the end. -/
def mixOnce (p q x v : EReal) : EReal :=
  Ideal.div (Ideal.exp (p - max p q) * x + Ideal.exp (q - max p q) * v) (Ideal.exp (p - max p q) + Ideal.exp (q - max p q))

/-- Mixing two branches by the softmax of two real scores: one division at the end, or one for each share. -/
theorem mix_eq (p q : ℝ) (x v : EReal) :
    mixOnce (p : EReal) q x v = mix (p : EReal) q x v := by
  unfold mixOnce mix
  obtain ⟨m, hm⟩ : ∃ m : ℝ, max (p : EReal) (q : EReal) = (m : EReal) := by
    rcases le_total p q with h | h
    · exact ⟨q, max_eq_right (EReal.coe_le_coe_iff.mpr h)⟩
    · exact ⟨p, max_eq_left (EReal.coe_le_coe_iff.mpr h)⟩
  rw [hm, ← EReal.coe_sub, ← EReal.coe_sub, Ideal.exp_coe, Ideal.exp_coe, ← EReal.coe_add]
  have hd : 0 < Real.exp (p - m) + Real.exp (q - m) := add_pos (Real.exp_pos _) (Real.exp_pos _)
  rw [Ideal.div_coe hd.ne', Ideal.div_coe hd.ne', Ideal.div_coe hd.ne', add_mul_real _ _ (one_div_pos.mpr hd).le]
  congr 1 <;> exact mul_right_comm _ _ _

/-! ## The layer -/

/-- The literal for minus infinity. -/
theorem ofBits_bot : Ideal.ofBits .f32 0xFF800000#32 = ⊥ := by simp [Ideal.ofBits, Ideal.ieee]

/-- The finite inputs of the layer: node rows, incidence, the root of each hyperedge, the two attention
matrices, and the small number added to a degree. -/
structure Layer where
  x : Fin 10000 → Fin 128 → ℝ
  a : Fin 10000 → Fin 2000 → ℝ
  rt : Fin 2000 → Fin 10000
  w2 : Fin 128 → Fin 128 → ℝ
  w3 : Fin 128 → Fin 128 → ℝ
  eps : ℝ

/-- What the claim assumes of them: incidence is zero or one, and no node and no hyperedge is left alone. -/
structure Layer.Ok (L : Layer) : Prop where
  bin : ∀ n e, L.a n e = 0 ∨ L.a n e = 1
  node : ∀ n, ∃ e, L.a n e = 1
  hedge : ∀ e, ∃ n, L.a n e = 1
  eps : 0 < L.eps

/-- The arrays hold the layer's inputs. -/
structure Holds (L : Layer) (x : (⟨2, ![10000, 128]⟩ : Shape).Idx → EReal) (a : (⟨2, ![10000, 2000]⟩ : Shape).Idx → EReal)
    (r : (⟨1, ![2000]⟩ : Shape).Idx → BitVec 32) (w2 w3 : (⟨2, ![128, 128]⟩ : Shape).Idx → EReal) : Prop where
  x : ∀ n c, x (ix2 n c) = (L.x n c : EReal)
  a : ∀ n e, a (ix2 n e) = (L.a n e : EReal)
  r : ∀ e, r (ix1 e) = BitVec.ofNat 32 (L.rt e).val
  w2 : ∀ k c, w2 (ix2 k c) = (L.w2 k c : EReal)
  w3 : ∀ k c, w3 (ix2 k c) = (L.w3 k c : EReal)
  eps : Ideal.ofBits .f32 0x2EDBE6FF#32 = (L.eps : EReal)

namespace Layer

variable (L : Layer)

/-- Node rows projected for attention. -/
def x4 (n : Fin 10000) (c : Fin 128) : ℝ := ∑ k, L.x n k * L.w2 k c
/-- A hyperedge: the mean of its members plus its root's row. -/
def e0 (e : Fin 2000) (c : Fin 128) : ℝ := (∑ n, L.a n e * L.x n c) / (∑ n, L.a n e + L.eps) + L.x (L.rt e) c
/-- Hyperedges projected for attention. -/
def e4 (e : Fin 2000) (c : Fin 128) : ℝ := ∑ k, L.e0 e k * L.w3 k c
/-- The attention score of a node and a hyperedge. -/
def sc (n : Fin 10000) (e : Fin 2000) : ℝ := ∑ c, L.x4 n c * L.e4 e c
/-- The weight of a node in a hyperedge. -/
def p (n : Fin 10000) (e : Fin 2000) : ℝ := Real.exp (L.sc n e) * L.a n e
/-- The attended hyperedge rows. -/
def edge (e : Fin 2000) (c : Fin 128) : ℝ := (∑ n, L.p n e * L.x n c) / ∑ n, L.p n e
/-- The attended node rows. -/
def node (n : Fin 10000) (c : Fin 128) : ℝ := (∑ e, L.p n e * L.edge e c) / ∑ e, L.p n e

variable {L}

/-- A degree with the small number added is not zero. -/
theorem Ok.deg_ne (h : L.Ok) (e : Fin 2000) : ∑ n, L.a n e + L.eps ≠ 0 := by
  have : 0 ≤ ∑ n, L.a n e := Finset.sum_nonneg fun n _ => by rcases h.bin n e with h | h <;> simp [h]
  linarith [h.eps]

/-- No weight is negative. -/
theorem Ok.p_nonneg (h : L.Ok) (n : Fin 10000) (e : Fin 2000) : 0 ≤ L.p n e := by
  unfold p; rcases h.bin n e with h | h <;> simp [h, Real.exp_nonneg]

/-- A node has positive weight in a hyperedge that it belongs to. -/
theorem p_pos {n : Fin 10000} {e : Fin 2000} (h : L.a n e = 1) : 0 < L.p n e := by
  unfold p; rw [h, mul_one]; exact Real.exp_pos _

/-- The weights of a hyperedge do not sum to zero. -/
theorem Ok.hedge_ne (h : L.Ok) (e : Fin 2000) : ∑ n, L.p n e ≠ 0 := by
  obtain ⟨n, hn⟩ := h.hedge e
  exact (Finset.sum_pos' (fun n _ => h.p_nonneg n e) ⟨n, Finset.mem_univ _, p_pos hn⟩).ne'

/-- The weights of a node do not sum to zero. -/
theorem Ok.node_ne (h : L.Ok) (n : Fin 10000) : ∑ e, L.p n e ≠ 0 := by
  obtain ⟨e, he⟩ := h.node n
  exact (Finset.sum_pos' (fun e _ => h.p_nonneg n e) ⟨e, Finset.mem_univ _, p_pos he⟩).ne'

end Layer

/-! ## The two ends -/

/-- The batch normalisation of one real value, as the reference writes it. -/
def norm (x5 x6 x7 x8 : (⟨1, ![128]⟩ : Shape).Idx → EReal) (r : ℝ) (c : Fin 128) : EReal :=
  Ideal.div ((r : EReal) - x7 (ix1 c)) (Ideal.sqrt (x8 (ix1 c) + Ideal.ofBits .f32 0x3727C5AC#32)) * x5 (ix1 c) + x6 (ix1 c)

/-- The score of one branch from its row. -/
def score (x9 : (⟨2, ![128, 128]⟩ : Shape).Idx → EReal) (x10 : (⟨1, ![128]⟩ : Shape).Idx → EReal)
    (x11 : (⟨2, ![128, 1]⟩ : Shape).Idx → EReal) (x12 : (⟨1, ![1]⟩ : Shape).Idx → EReal) (v : Fin 128 → EReal) : EReal :=
  ∑ k, Ideal.tanh (∑ d, v d * x9 (ix2 d k) + x10 (ix1 k)) * x11 (ix2 k 0) + x12 (ix1 0)

end Cert.Proof.Val
-- ==== Proof.PreRead.lean ====
module

public import proofs.«01_k».proof.Defs
public import proofs.«01_k».proof.Proof.Gen.Pre_incidence
public import proofs.«01_k».proof.Proof.Frames
public import proofs.«01_k».proof.Proof.Spec
public import Idealize.ShloMosaic.Lib.ReduceAll

/-!
# What the precondition says

The precondition of the value claim, read as facts about the entries of the arguments, and the layer the arguments hold.
-/

@[expose] public section

set_option maxRecDepth 16384

noncomputable section

namespace Cert.Proof.Val

open Cert.Pre_incidence Idealize.ShloMosaic

/-! ## Tests at one element -/

theorem and_one {p q : BitVec 1} (h : IntOp.andi p q = 1#1) : p = 1#1 ∧ q = 1#1 := by
  revert p q; decide
theorem or_one {p q : BitVec 1} (h : IntOp.ori p q = 1#1) : p = 1#1 ∨ q = 1#1 := by
  revert p q; decide
theorem bool_one {p : Bool} (h : BitVec.ofBool p = 1#1) : p = true := by
  revert p; decide

theorem ofBits_top : Ideal.ofBits .f32 0x7F800000#32 = ⊤ := by simp [Ideal.ofBits, Ideal.ieee]
theorem ofBits_one : Ideal.ofBits .f32 0x3F800000#32 = ((1 : ℝ) : EReal) := Ideal.ofBits_one_f32.trans EReal.coe_one.symm
/-- The guard of the quotients is a positive real. -/
theorem ofBits_eps : ∃ r : ℝ, 0 < r ∧ Ideal.ofBits .f32 0x2EDBE6FF#32 = (r : EReal) := by
  refine ⟨14411519 * (2 ^ 57)⁻¹, by positivity, ?_⟩
  rw [EReal.coe_mul]
  simp [Ideal.ofBits, Ideal.ieee]

/-- A value whose absolute value is below plus infinity is a real. -/
theorem real_of_test {v : EReal} (h : Ideal.cmp .olt (max v (-v)) (Ideal.ofBits .f32 0x7F800000#32) = 1#1) : v = ((v.toReal : ℝ) : EReal) := by
  rw [ofBits_top] at h
  have h' : max v (-v) < ⊤ := of_decide_eq_true (bool_one h)
  refine (EReal.coe_toReal (fun e => ?_) fun e => ?_).symm <;> simp [e] at h'

theorem pos_of_test {v : EReal} (h : Ideal.cmp .ogt v (Ideal.ofBits .f32 0x00000000#32) = 1#1) : 0 < v := by
  rw [Ideal.ofBits_zero_f32] at h
  exact of_decide_eq_true (bool_one h)

theorem bin_of_test {v : EReal} (h : IntOp.ori (Ideal.cmp .oeq v (Ideal.ofBits .f32 0x00000000#32)) (Ideal.cmp .oeq v (Ideal.ofBits .f32 0x3F800000#32)) = 1#1) :
    v = ((0 : ℝ) : EReal) ∨ v = ((1 : ℝ) : EReal) := by
  rw [Ideal.ofBits_zero_f32, ofBits_one] at h
  rcases or_one h with h | h
  · exact .inl (of_decide_eq_true (bool_one h))
  · exact .inr (of_decide_eq_true (bool_one h))

/-! ## Sums along an axis -/

theorem sum_cols {m n : Nat} (x : FVec Ideal ⟨2, ![m, n]⟩ .f32) (h' : (⟨2, ![m, n]⟩ : Shape).ReducesTo [0] (⟨1, ![n]⟩ : Shape))
    (h : (⟨2, ![m, n]⟩ : Shape).Reduces [0] (⟨1, ![n]⟩ : Shape)) (hu : 0 < S_.numel) (t : Fin n) :
    Host.reduceAdd (F := Ideal) x (constant S_ .f32 0x00000000#32) h' hu (ix1 t) = ∑ k : Fin m, x (ix2 k t) := by
  simp only [Host.reduceAdd, Ideal.hostReduceAdd_def]
  rw [Ideal.hostReduceAdd_single h' h]
  refine Eq.trans (congrArg₂ (· + ·) Ideal.ofBits_zero_f32 (Finset.sum_congr rfl fun k _ => congrArg x ?_)) (zero_add _)
  funext c; apply Fin.ext
  fin_cases c <;> rfl

theorem sum_rows {m n : Nat} (x : FVec Ideal ⟨2, ![m, n]⟩ .f32) (h' : (⟨2, ![m, n]⟩ : Shape).ReducesTo [1] (⟨1, ![m]⟩ : Shape))
    (h : (⟨2, ![m, n]⟩ : Shape).Reduces [1] (⟨1, ![m]⟩ : Shape)) (hu : 0 < S_.numel) (t : Fin m) :
    Host.reduceAdd (F := Ideal) x (constant S_ .f32 0x00000000#32) h' hu (ix1 t) = ∑ k : Fin n, x (ix2 t k) := by
  simp only [Host.reduceAdd, Ideal.hostReduceAdd_def]
  rw [Ideal.hostReduceAdd_single h' h]
  refine Eq.trans (congrArg₂ (· + ·) Ideal.ofBits_zero_f32 (Finset.sum_congr rfl fun k _ => congrArg x ?_)) (zero_add _)
  funext c; apply Fin.ext
  fin_cases c <;> rfl

/-! ## The precondition -/

variable (x : FVec Ideal S10000x128 .f32) (a : FVec Ideal S10000x2000 .f32) (r : IVec S2000 32) (w2 w3 : FVec Ideal S128x128 .f32)
  (g b u w : FVec Ideal S128 .f32) (f1 : FVec Ideal S128x128 .f32) (b1 : FVec Ideal S128 .f32) (f2 : FVec Ideal S128x1 .f32) (b2 : FVec Ideal S1 .f32)

/-- What the value claim assumes, entry by entry. -/
structure Given : Prop where
  row : ∀ e, (r (ix1 e)).toNat < 10000
  bin : ∀ n e, a (ix2 n e) = ((0 : ℝ) : EReal) ∨ a (ix2 n e) = ((1 : ℝ) : EReal)
  hedge : ∀ e, 0 < ∑ n, a (ix2 n e)
  node : ∀ n, 0 < ∑ e, a (ix2 n e)
  x : ∀ n k, x (ix2 n k) = ((x (ix2 n k)).toReal : EReal)
  w2 : ∀ j k, w2 (ix2 j k) = ((w2 (ix2 j k)).toReal : EReal)
  w3 : ∀ j k, w3 (ix2 j k) = ((w3 (ix2 j k)).toReal : EReal)
  g : ∀ k, g (ix1 k) = ((g (ix1 k)).toReal : EReal)
  w : ∀ k, 0 < w (ix1 k) + Ideal.ofBits .f32 0x3727C5AC#32
  f2 : ∀ k, f2 (ix2 k 0) = ((f2 (ix2 k 0)).toReal : EReal)
  b2 : b2 (ix1 0) = ((b2 (ix1 0)).toReal : EReal)

theorem given (h : fn (F := Ideal) x a r w2 w3 g b u w f1 b1 f2 b2 = fun _ => 1#1) : Given x a r w2 w3 g w f2 b2 := by
  have e := congrFun h ix0
  unfold fn fn_part1 fn_part2 fn_part3 at e
  haveI : Subsingleton S_.Idx := ⟨fun a b => funext fun i => i.elim0⟩
  obtain ⟨e, eb2⟩ := and_one e
  obtain ⟨e, ef2⟩ := and_one e
  obtain ⟨e, ew⟩ := and_one e
  obtain ⟨e, eg⟩ := and_one e
  obtain ⟨e, ew3⟩ := and_one e
  obtain ⟨e, ew2⟩ := and_one e
  obtain ⟨e, ex⟩ := and_one e
  obtain ⟨e, en⟩ := and_one e
  obtain ⟨e, eh⟩ := and_one e
  obtain ⟨er, ea⟩ := and_one e
  refine ⟨fun e => ?_, fun n e => ?_, fun e => ?_, fun n => ?_, fun n k => ?_, fun j k => ?_, fun j k => ?_, fun k => ?_,
    fun k => ?_, fun k => ?_, ?_⟩
  · exact Run.word_in_rows _ (Host.reduce_andi_all _ _ _ _ _ er (ix1 e))
  · exact bin_of_test (Host.reduce_andi_all _ _ _ _ _ ea (ix2 n e))
  · have t := Host.reduce_andi_all _ _ _ _ _ eh (ix1 e)
    exact lt_of_lt_of_eq (pos_of_test t) (sum_cols a _ (by decide) _ e)
  · have t := Host.reduce_andi_all _ _ _ _ _ en (ix1 n)
    exact lt_of_lt_of_eq (pos_of_test t) (sum_rows a _ (by decide) _ n)
  · exact real_of_test (Host.reduce_andi_all _ _ _ _ _ ex (ix2 n k))
  · exact real_of_test (Host.reduce_andi_all _ _ _ _ _ ew2 (ix2 j k))
  · exact real_of_test (Host.reduce_andi_all _ _ _ _ _ ew3 (ix2 j k))
  · exact real_of_test (Host.reduce_andi_all _ _ _ _ _ eg (ix1 k))
  · exact pos_of_test (Host.reduce_andi_all _ _ _ _ _ ew (ix1 k))
  · exact real_of_test (Host.reduce_andi_all _ _ _ _ _ ef2 (ix2 k 0))
  · exact real_of_test (Host.reduce_andi_all _ _ _ _ _ eb2 (ix1 0))

variable {x a r w2 w3 g w f2 b2}

/-- The layer the arguments hold. -/
theorem Given.layer (h : Given x a r w2 w3 g w f2 b2) : ∃ L : Layer, L.Ok ∧ Holds L x a r w2 w3 := by
  obtain ⟨eps, hpos, heps⟩ := ofBits_eps
  have ha : ∀ n e, a (ix2 n e) = ((a (ix2 n e)).toReal : EReal) := fun n e => by
    rcases h.bin n e with t | t <;> rw [t, EReal.toReal_coe]
  refine ⟨⟨fun n k => (x (ix2 n k)).toReal, fun n e => (a (ix2 n e)).toReal, fun e => ⟨(r (ix1 e)).toNat, h.row e⟩,
    fun j k => (w2 (ix2 j k)).toReal, fun j k => (w3 (ix2 j k)).toReal, eps⟩, ⟨fun n e => ?_, fun n => ?_, fun e => ?_, hpos⟩,
    ⟨h.x, ha, fun e => ?_, h.w2, h.w3, heps⟩⟩
  · show (a (ix2 n e)).toReal = 0 ∨ (a (ix2 n e)).toReal = 1
    rcases h.bin n e with t | t
    · left; rw [t, EReal.toReal_coe]
    · right; rw [t, EReal.toReal_coe]
  · by_contra hn
    refine (h.node n).ne' (Finset.sum_eq_zero fun e _ => ?_)
    rcases h.bin n e with t | t
    · rw [t, EReal.coe_zero]
    · exact absurd ⟨e, by show (a (ix2 n e)).toReal = 1; rw [t, EReal.toReal_coe]⟩ hn
  · by_contra hn
    refine (h.hedge e).ne' (Finset.sum_eq_zero fun n _ => ?_)
    rcases h.bin n e with t | t
    · rw [t, EReal.coe_zero]
    · exact absurd ⟨n, by show (a (ix2 n e)).toReal = 1; rw [t, EReal.toReal_coe]⟩ hn
  · show r (ix1 e) = BitVec.ofNat 32 (r (ix1 e)).toNat
    rw [BitVec.ofNat_toNat, BitVec.setWidth_eq]

end Cert.Proof.Val
-- ==== Proof.KerPay.lean ====
module

public import proofs.«01_k».proof.Proof.TcBody
public import proofs.«01_k».proof.Proof.Spec

/-!
# What the kernel's body computes

The body's values over the extended reals, read at an index, from blocks that hold the layer's inputs.
-/

@[expose] public section

noncomputable section

namespace Cert.Proof.Val

open Cert.KernelIdeal Cert.KernelIdeal.Gen Idealize.ShloMosaic
open Cert.Proof.Tc

variable {L : Layer}

/-- The blocks of one hyperedge point hold the layer's inputs for the hyperedges `e` names. -/
structure Block (L : Layer) (e : Fin 200 → Fin 2000) (a : Vec Ideal S200x10000 .f32) (xb : Vec Ideal S10000x128 .bf16)
    (r : Vec Ideal S200x128 .f32) (w3 : Vec Ideal S128x128 .f32) (x4 : Vec Ideal S10000x128 .f32) : Prop where
  a : ∀ i n, a (ix2 i n) = (L.a n (e i) : EReal)
  xb : ∀ n c, xb (ix2 n c) = (L.x n c : EReal)
  r : ∀ i c, r (ix2 i c) = (L.x (L.rt (e i)) c : EReal)
  w3 : ∀ k c, w3 (ix2 k c) = (L.w3 k c : EReal)
  x4 : ∀ n c, x4 (ix2 n c) = (L.x4 n c : EReal)

section Point

variable {e : Fin 200 → Fin 2000} {a : Vec Ideal S200x10000 .f32} {xb : Vec Ideal S10000x128 .bf16}
    {r : Vec Ideal S200x128 .f32} {w3 : Vec Ideal S128x128 .f32} {x4 : Vec Ideal S10000x128 .f32}

/-- The block's weights. -/
theorem pm_real (ok : L.Ok) (heps : Ideal.ofBits .f32 0x2EDBE6FF#32 = (L.eps : EReal)) (b : Block L e a xb r w3 x4) (i : Fin 200) (n : Fin 10000) :
    k1_pay9 a xb r w3 x4 (ix2 i n) = (L.p n (e i) : EReal) := by
  pointwise [k1_pay9]
  simp only [b.a, b.xb, b.r, b.w3, b.x4, heps, ← EReal.coe_mul, ← coe_sum, ← EReal.coe_add, div_real _ (ok.deg_ne (e i)), Ideal.exp_coe]
  unfold Layer.p Layer.sc
  simp only [mul_comm (L.x4 n _)]
  rfl

/-- The block's normalised sums. -/
theorem er_real (ok : L.Ok) (heps : Ideal.ofBits .f32 0x2EDBE6FF#32 = (L.eps : EReal)) (b : Block L e a xb r w3 x4) (i : Fin 200) (c : Fin 128) :
    k1_pay10 a xb r w3 x4 (ix2 i c) = (L.edge (e i) c : EReal) := by
  have h : k1_pay10 a xb r w3 x4 (ix2 i c)
      = Ideal.div (∑ n, k1_pay9 a xb r w3 x4 (ix2 i n) * xb (ix2 n c)) (∑ n, k1_pay9 a xb r w3 x4 (ix2 i n)) := by
    unfold k1_pay10
    generalize k1_pay9 a xb r w3 x4 = p
    pointwise []
  rw [h]
  simp only [pm_real ok heps b, b.xb, ← EReal.coe_mul, ← coe_sum, div_real _ (ok.hedge_ne (e i))]
  rfl

/-- The block of the second result. -/
theorem eout_real (ok : L.Ok) (heps : Ideal.ofBits .f32 0x2EDBE6FF#32 = (L.eps : EReal)) (b : Block L e a xb r w3 x4)
    (bs bb : Vec Ideal S1x128 .f32) (i : Fin 200) (c : Fin 128) :
    eoutOf a xb r w3 x4 bs bb (ix2 i c) = (elu (L.edge (e i) c) : EReal) * bs (ix2 0 c) + bb (ix2 0 c) := by
  have h : eoutOf a xb r w3 x4 bs bb (ix2 i c)
      = (if 0 < k1_pay10 a xb r w3 x4 (ix2 i c) then k1_pay10 a xb r w3 x4 (ix2 i c) else Ideal.exp (k1_pay10 a xb r w3 x4 (ix2 i c)) - 1)
        * bs (ix2 0 c) + bb (ix2 0 c) := by
    unfold eoutOf k1_pay1 k1_pay11
    generalize k1_pay10 a xb r w3 x4 = p
    pointwise []
  rw [h, er_real ok heps b, elu_choice]

/-- One block's part of the weighted sums. -/
theorem nacc_step (p : FVec Ideal S200x10000 .bf16) (q : FVec Ideal S200x128 .f32) (w : Vec Ideal S10000x128 .f32) (n : Fin 10000) (c : Fin 128) :
    k1_pay2 p q w (ix2 n c) = w (ix2 n c) + ∑ i, p (ix2 i n) * q (ix2 i c) := by
  pointwise [k1_pay2]

/-- One block's part of the weights' sums. -/
theorem rsum_step (p : FVec Ideal S200x10000 .bf16) (w : Vec Ideal S1x10000 .f32) (n : Fin 10000) :
    k1_pay3 p w (ix2 0 n) = w (ix2 0 n) + ∑ i, p (ix2 i n) := by
  pointwise [k1_pay3]

theorem nacc_zero (n : Fin 10000) (c : Fin 128) : k1_pay7 (F := Ideal) (ix2 n c) = 0 := by
  pointwise [k1_pay7]
theorem rsum_zero (n : Fin 10000) : k1_pay8 (F := Ideal) (ix2 0 n) = 0 := by
  pointwise [k1_pay8]
theorem rcol_at (w : Vec Ideal S1x10000 .f32) (n : Fin 10000) : k1_pay12 w (ix2 n 0) = w (ix2 0 n) := by
  pointwise [k1_pay12]
theorem xbf_at (x : Vec Ideal S10000x128 .f32) (n : Fin 10000) (c : Fin 128) : k1_pay5 x (ix2 n c) = x (ix2 n c) := by
  pointwise [k1_pay5]
theorem x4_at (x : Vec Ideal S10000x128 .f32) (w : Vec Ideal S128x128 .f32) (n : Fin 10000) (c : Fin 128) :
    k1_pay6 x w (ix2 n c) = ∑ k, x (ix2 n k) * w (ix2 k c) := by
  pointwise [k1_pay6]

end Point

/-- The normalised node row of a block. -/
def nodeRow (r : Vec Ideal S1000x1 .f32) (s : Vec Ideal S1000x128 .f32) (bs bb : Vec Ideal S1x128 .f32) (i : Fin 1000) (c : Fin 128) : EReal :=
  (if 0 < Ideal.div (s (ix2 i c)) (r (ix2 i 0)) then Ideal.div (s (ix2 i c)) (r (ix2 i 0)) else Ideal.exp (Ideal.div (s (ix2 i c)) (r (ix2 i 0))) - 1)
    * bs (ix2 0 c) + bb (ix2 0 c)

/-- The score of one branch in the kernel, from its row. -/
def kscore (w1 : Vec Ideal S128x128 .f32) (b1 w2 : Vec Ideal S1x128 .f32) (b2 : Vec Ideal S1x1 .f32) (v : Fin 128 → EReal) : EReal :=
  ∑ k, Ideal.tanh (∑ d, v d * w1 (ix2 d k) + b1 (ix2 0 k)) * w2 (ix2 0 k) + b2 (ix2 0 0)

/-- The block of the first result. -/
theorem xout_at (x : Vec Ideal S1000x128 .f32) (r : Vec Ideal S1000x1 .f32) (s : Vec Ideal S1000x128 .f32) (bs bb : Vec Ideal S1x128 .f32)
    (w1 : Vec Ideal S128x128 .f32) (b1 w2 : Vec Ideal S1x128 .f32) (b2 : Vec Ideal S1x1 .f32) (i : Fin 1000) (c : Fin 128) :
    xoutOf x r s bs bb w1 b1 w2 b2 (ix2 i c)
      = mixOnce (kscore w1 b1 w2 b2 fun d => x (ix2 i d)) (kscore w1 b1 w2 b2 (nodeRow r s bs bb i)) (x (ix2 i c)) (nodeRow r s bs bb i c) := by
  have h13 : ∀ c, k1_pay13 r s bs bb (ix2 i c) = nodeRow r s bs bb i c := fun c => by
    pointwise [k1_pay13]
    rfl
  unfold xoutOf
  generalize k1_pay13 r s bs bb = v at h13 ⊢
  pointwise [k1_pay4, k1_pay14, k1_pay15]
  simp only [h13]
  rfl

end Cert.Proof.Val
-- ==== Proof.KerArr.lean ====
module

public import proofs.«01_k».proof.Proof.TcData
public import proofs.«01_k».proof.Proof.KerPay
public import Idealize.ShloMosaic.Lib.Pipeline.ValueKit

/-!
# What the TensorCore call leaves in its two result arrays

The blocks of the call's windows, read off the arrays the call finds, and from them the two results as functions of the
layer's inputs.
-/

@[expose] public section

set_option maxRecDepth 16384

noncomputable section

namespace Cert.Proof.Val

open Cert.KernelIdeal Cert.KernelIdeal.Gen Idealize.ShloMosaic Idealize.ShloMosaic.TcCoe
open Cert.Proof.Tc

variable (V : (c : Dev nD) → (b : Ref sig .tc) → Buf (Elt Ideal) ((c : Thread nD τ).loc b)) (c : Dev nD)

/-! ## Blocks at an index -/

/-- Every window's block index at a point. -/
theorem idx_in : ∀ t : Fin cfg1.N, win1_0.index t = ![min t.val 9, 0] ∧ win1_1.index t = ![0, 0] ∧ win1_2.index t = ![t.val - 10, 0]
    ∧ win1_3.index t = ![min t.val 9, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] ∧ win1_12.index t = ![min t.val 9, 0] ∧ win1_13.index t = ![t.val - 10, 0] :=
  (by decide +kernel : ∀ t : Fin grid1.N, _)

/-- Member `i` of hyperedge block `n`. -/
def he (n : ℕ) (i : Fin 200) : Fin 2000 := ⟨min n 9 * 200 + i.val, by omega⟩
/-- A hyperedge as a row of the padded list. -/
def pad (e : Fin 2000) : Fin 2048 := ⟨e.val, by omega⟩
/-- Member `i` of the node block of point `t`. -/
def nd (t : Fin cfg1.N) (i : Fin 1000) : Fin 10000 :=
  ⟨(t.val - 10) * 1000 + i.val, by have := lt_of_lt_of_eq t.isLt (show cfg1.N = 20 from N_1); omega⟩

theorem blk0 (t : Fin cfg1.N) (i : Fin 200) (n : Fin 10000) : iblk V c 0 t (ix2 i n) = V c main_v12 (ix2 (he t.val i) n) := by
  unfold he
  blk_ext [iblk, idx_in t]
theorem blk1 (t : Fin cfg1.N) (n : Fin 10000) (k : Fin 128) : iblk V c 1 t (ix2 n k) = V c main_arg0 (ix2 n k) := by
  blk_ext [iblk, idx_in t]
theorem blk2 (t : Fin cfg1.N) (i : Fin 1000) (k : Fin 128) : iblk V c 2 t (ix2 i k) = V c main_arg0 (ix2 (nd t i) k) := by
  unfold nd
  blk_ext [iblk, idx_in t]
theorem blk3 (t : Fin cfg1.N) (i : Fin 200) (k : Fin 128) : rblk V c t (ix2 i k) = V c main_v2 (ix2 (pad (he t.val i)) k) := by
  unfold rblk Pipeline.Window.fill
  rw [dif_pos (moved3 t (ix2 i k))]
  unfold he pad
  blk_ext [iblk, idx_in t]
theorem blk4 (t : Fin cfg1.N) (j k : Fin 128) : iblk V c 4 t (ix2 j k) = V c main_arg3 (ix2 j k) := by
  blk_ext [iblk, idx_in t]
theorem blk5 (t : Fin cfg1.N) (j k : Fin 128) : iblk V c 5 t (ix2 j k) = V c main_arg4 (ix2 j k) := by
  blk_ext [iblk, idx_in t]
theorem blk6 (t : Fin cfg1.N) (k : Fin 128) : iblk V c 6 t (ix2 0 k) = V c main_v7 (ix2 0 k) := by
  blk_ext [iblk, idx_in t]
theorem blk7 (t : Fin cfg1.N) (k : Fin 128) : iblk V c 7 t (ix2 0 k) = V c main_v11 (ix2 0 k) := by
  blk_ext [iblk, idx_in t]
theorem blk8 (t : Fin cfg1.N) (j k : Fin 128) : iblk V c 8 t (ix2 j k) = V c main_arg9 (ix2 j k) := by
  blk_ext [iblk, idx_in t]
theorem blk9 (t : Fin cfg1.N) (k : Fin 128) : iblk V c 9 t (ix2 0 k) = V c main_v13 (ix2 0 k) := by
  blk_ext [iblk, idx_in t]
theorem blk10 (t : Fin cfg1.N) (k : Fin 128) : iblk V c 10 t (ix2 0 k) = V c main_v14 (ix2 0 k) := by
  blk_ext [iblk, idx_in t]
theorem blk11 (t : Fin cfg1.N) : iblk V c 11 t (ix2 0 0) = V c main_v15 (ix2 0 0) := by
  blk_ext [iblk, idx_in t]

/-- The arrays the call finds hold the layer's inputs. -/
structure Found (L : Layer) : Prop where
  adj : ∀ e n, V c main_v12 (ix2 e n) = (L.a n e : EReal)
  x : ∀ n k, V c main_arg0 (ix2 n k) = (L.x n k : EReal)
  root : ∀ e k, V c main_v2 (ix2 (pad e) k) = (L.x (L.rt e) k : EReal)
  w2 : ∀ j k, V c main_arg3 (ix2 j k) = (L.w2 j k : EReal)
  w3 : ∀ j k, V c main_arg4 (ix2 j k) = (L.w3 j k : EReal)
  eps : Ideal.ofBits .f32 0x2EDBE6FF#32 = (L.eps : EReal)

variable {V c} {L : Layer}

/-! ## The scratch -/

theorem block_at (f : Found V c L) (n : ℕ) (hn : n < 20) :
    Block L (he n) (iblk V c 0 (pt n)) (xbf V c) (rblk V c (pt n)) (iblk V c 5 (pt n)) (x4a V c) := by
  have hp : (pt n).val = n := Nat.mod_eq_of_lt hn
  refine ⟨fun i k => ?_, fun k d => ?_, fun i d => ?_, fun j k => ?_, fun k d => ?_⟩
  · rw [blk0, hp]; exact f.adj _ _
  · unfold xbf; rw [xbf_at, blk1]; exact f.x _ _
  · rw [blk3, hp]; exact f.root _ _
  · rw [blk5]; exact f.w3 _ _
  · unfold x4a; rw [x4_at]
    simp only [blk1, blk4, f.x, f.w2, ← EReal.coe_mul, ← coe_sum]
    rfl

/-- A sum over ten blocks of two hundred is the sum over all hyperedges. -/
theorem sum_tiles (g : Fin 2000 → ℝ) : ∑ n ∈ Finset.range 10, ∑ i, g (he n i) = ∑ e, g e := by
  rw [Finset.sum_range, ← Fintype.sum_prod_type']
  refine Fintype.sum_equiv (finProdFinEquiv : Fin 10 × Fin 200 ≃ Fin 2000) _ _ fun p => congrArg g (Fin.ext ?_)
  have := p.1.isLt
  simp only [he, finProdFinEquiv_apply_val]
  omega

theorem nacc_at (f : Found V c L) (ok : L.Ok) (n : Fin 10000) (d : Fin 128) : ∀ k, k ≤ 10 →
    nacc V c k (ix2 n d) = ((∑ j ∈ Finset.range k, ∑ i, L.p n (he j i) * L.edge (he j i) d : ℝ) : EReal)
  | 0, _ => by rw [Finset.sum_range_zero]; exact nacc_zero n d
  | k + 1, h => by
    rw [Finset.sum_range_succ, EReal.coe_add, ← nacc_at f ok n d k (by omega)]
    show k1_pay2 (pm V c k) (er V c k) (nacc V c k) (ix2 n d) = _
    rw [nacc_step]
    unfold pm er pmOf erOf
    simp only [pm_real ok f.eps (block_at f k (by omega)), er_real ok f.eps (block_at f k (by omega)), ← EReal.coe_mul, ← coe_sum]

theorem rsum_at (f : Found V c L) (ok : L.Ok) (n : Fin 10000) : ∀ k, k ≤ 10 →
    rsum V c k (ix2 0 n) = ((∑ j ∈ Finset.range k, ∑ i, L.p n (he j i) : ℝ) : EReal)
  | 0, _ => by rw [Finset.sum_range_zero]; exact rsum_zero n
  | k + 1, h => by
    rw [Finset.sum_range_succ, EReal.coe_add, ← rsum_at f ok n k (by omega)]
    show k1_pay3 (pm V c k) (rsum V c k) (ix2 0 n) = _
    rw [rsum_step]
    unfold pm pmOf
    simp only [pm_real ok f.eps (block_at f k (by omega)), ← coe_sum]

/-- The finished weighted sums. -/
theorem nacc_done (f : Found V c L) (ok : L.Ok) (n : Fin 10000) (d : Fin 128) :
    nacc V c 10 (ix2 n d) = ((∑ e, L.p n e * L.edge e d : ℝ) : EReal) := by
  rw [nacc_at f ok n d 10 le_rfl, sum_tiles fun e => L.p n e * L.edge e d]
/-- The finished sums of the weights. -/
theorem rcol_done (f : Found V c L) (ok : L.Ok) (n : Fin 10000) : rcol V c (ix2 n 0) = ((∑ e, L.p n e : ℝ) : EReal) := by
  unfold rcol
  rw [rcol_at, rsum_at f ok n 10 le_rfl, sum_tiles fun e => L.p n e]

theorem coord (t : Fin cfg1.N) : (grid1.coords t 0).val = t.val :=
  (by decide +kernel : ∀ t : Fin grid1.N, (grid1.coords t 0).val = t.val) t

theorem nrows_at (t : Fin cfg1.N) (h : nodePt (grid1.coords t)) (w : Vec Ideal S10000x128 .f32) (i : Fin 1000) (d : Fin 128) :
    nrows (grid1.coords t) h w (ix2 i d) = w (ix2 (nd t i) d) := by
  unfold nrows
  refine congrArg w (funext fun a => Fin.ext ?_)
  show k1_off2 (grid1.coords t) a + 1 * (ix2 i d a).val = _
  rw [off2_eq _ h, coord]
  fin_cases a
  · show 1000 * (t.val - 10) + 1 * i.val = (t.val - 10) * 1000 + i.val; omega
  · show 0 + 1 * d.val = d.val; omega
theorem rrows_at (t : Fin cfg1.N) (h : nodePt (grid1.coords t)) (w : Vec Ideal S10000x1 .f32) (i : Fin 1000) :
    rrows (grid1.coords t) h w (ix2 i 0) = w (ix2 (nd t i) 0) := by
  unfold rrows
  refine congrArg w (funext fun a => Fin.ext ?_)
  show k1_off1 (grid1.coords t) a + 1 * (ix2 i (0 : Fin 1) a).val = _
  rw [off1_eq _ h, coord]
  fin_cases a
  · show 1000 * (t.val - 10) + 1 * i.val = (t.val - 10) * 1000 + i.val; omega
  · rfl

/-! ## The two results -/

/-- A row scaled and shifted by the call's two row vectors. -/
def affine (V : (c : Dev nD) → (b : Ref sig .tc) → Buf (Elt Ideal) ((c : Thread nD τ).loc b)) (c : Dev nD) (r : ℝ) (d : Fin 128) : EReal :=
  (r : EReal) * V c main_v7 (ix2 0 d) + V c main_v11 (ix2 0 d)

theorem edge_arr (f : Found V c L) (ok : L.Ok) :
    (dats V 0 c).arrAt 12 cfg1.N = fun j : S2000x128.Idx => affine V c (elu (L.edge (j 0) (j 1))) (j 1) := by
  refine (dats V 0 c).arrAt_eq_of_covers 12 _ (by decide +kernel) fun t hf y => ?_
  blk_simp
  rw [after_12]
  have hz : ∃ (i : Fin 200) (d : Fin 128), y = ix2 i d := ⟨y 0, y 1, by funext a; fin_cases a <;> rfl⟩
  obtain ⟨i, d, rfl⟩ := hz
  have he' : (win1_12.blk t).view.emb (ix2 i d) = ix2 (he (min t.val 9) i) d := by
    unfold he
    blk_ext [idx_in t]
  rw [he']
  unfold eout
  refine (eout_real ok f.eps (block_at f _ (by omega)) _ _ i d).trans ?_
  rw [blk6, blk7]
  rfl

theorem node_arr (f : Found V c L) (ok : L.Ok) :
    (dats V 0 c).arrAt 13 cfg1.N = fun j : S10000x128.Idx =>
      mixOnce (kscore (V c main_arg9) (V c main_v13) (V c main_v14) (V c main_v15) fun d => (L.x (j 0) d : EReal))
        (kscore (V c main_arg9) (V c main_v13) (V c main_v14) (V c main_v15) fun d => affine V c (elu (L.node (j 0) d)) d)
        (L.x (j 0) (j 1) : EReal) (affine V c (elu (L.node (j 0) (j 1))) (j 1)) := by
  refine (dats V 0 c).arrAt_eq_of_covers 13 _ (by decide +kernel) fun t hf y => ?_
  blk_simp
  rw [after_13]
  have hz : ∃ (i : Fin 1000) (d : Fin 128), y = ix2 i d := ⟨y 0, y 1, by funext a; fin_cases a <;> rfl⟩
  obtain ⟨i, d, rfl⟩ := hz
  have he' : (win1_13.blk t).view.emb (ix2 i d) = ix2 (nd t i) d := by
    unfold nd
    blk_ext [idx_in t]
  rw [he']
  have hn : nodePt (grid1.coords t) := (nodePt_iff t).mpr (by rw [flush_13] at hf; exact of_decide_eq_true hf)
  unfold xout
  rw [dif_pos hn]
  refine (xout_at _ _ _ _ _ _ _ _ _ i d).trans ?_
  have hr : ∀ d, nodeRow (rrows (grid1.coords t) hn (rcol V c)) (nrows (grid1.coords t) hn (nacc V c 10)) (iblk V c 6 t) (iblk V c 7 t) i d
      = affine V c (elu (L.node (nd t i) d)) d := fun d => by
    unfold nodeRow affine
    rw [rrows_at, nrows_at, rcol_done f ok, nacc_done f ok, div_real _ (ok.node_ne _), blk6, blk7]
    rw [show (∑ e, L.p (nd t i) e * L.edge e d) / ∑ e, L.p (nd t i) e = L.node (nd t i) d from rfl, elu_choice]
  have hk : ∀ v, kscore (iblk V c 8 t) (iblk V c 9 t) (iblk V c 10 t) (iblk V c 11 t) v
      = kscore (V c main_arg9) (V c main_v13) (V c main_v14) (V c main_v15) v := fun v => by
    unfold kscore
    simp only [blk8, blk9, blk10, blk11]
  rw [hk, hk, funext hr]
  simp only [blk2, f.x]
  rfl

end Cert.Proof.Val
-- ==== Proof.Host.lean ====
module

public import proofs.«01_k».proof.Proof.Frames
public import proofs.«01_k».proof.Proof.KerArr

/-!
# The arrays the TensorCore call finds

The host's operations and the SparseCore call's gathered rows, read at an index of the arguments.
-/

@[expose] public section

set_option maxRecDepth 16384

noncomputable section

namespace Cert.Proof.Val

open Cert.KernelIdeal Cert.KernelIdeal.Gen Idealize.ShloMosaic Idealize.ShloMosaic.TcCoe
open Cert.Proof.Sc Cert.Proof.Run

/-! ## After the second operations, from any buffers -/

section After

variable (W : Valuation τ sig (Elt Ideal))

/-- A vector buffer of 128 entries, as a function. -/
abbrev vec (b : Ref sig .tc) (h : (Proc.devRef (τ := τ) .tc b).ty = ⟨S128, .f32⟩ := by rfl) (k : Fin 128) : EReal :=
  (h ▸ W (Proc.devRef .tc b) : (⟨S128, .f32⟩ : BufTy).Contents (Elt Ideal)) (ix1 k)

/-- The scale of the normalisation. -/
theorem after_v7 (k : Fin 128) : (StableHlo.after opsB W (Proc.devRef .tc main_v7) : S1x128.Idx → EReal) (ix2 0 k)
    = vec W main_arg5 rfl k * Ideal.rsqrt (vec W main_arg8 rfl k + Ideal.ofBits .f32 0x3727C5AC#32) := by
  after_results
  pointwise []

/-- The shift of the normalisation. -/
theorem after_v11 (k : Fin 128) : (StableHlo.after opsB W (Proc.devRef .tc main_v11) : S1x128.Idx → EReal) (ix2 0 k)
    = vec W main_arg6 rfl k - vec W main_arg7 rfl k
      * (vec W main_arg5 rfl k * Ideal.rsqrt (vec W main_arg8 rfl k + Ideal.ofBits .f32 0x3727C5AC#32)) := by
  after_results
  pointwise []

theorem after_v12 (e : Fin 2000) (n : Fin 10000) : (StableHlo.after opsB W (Proc.devRef .tc main_v12) : S2000x10000.Idx → EReal) (ix2 e n)
    = (W (Proc.devRef .tc main_arg1) : S10000x2000.Idx → EReal) (ix2 n e) := by
  after_results
  pointwise []

theorem after_v13 (k : Fin 128) : (StableHlo.after opsB W (Proc.devRef .tc main_v13) : S1x128.Idx → EReal) (ix2 0 k)
    = (W (Proc.devRef .tc main_arg10) : S128.Idx → EReal) (ix1 k) := by
  after_results
  pointwise []

theorem after_v14 (k : Fin 128) : (StableHlo.after opsB W (Proc.devRef .tc main_v14) : S1x128.Idx → EReal) (ix2 0 k)
    = (W (Proc.devRef .tc main_arg11) : S128x1.Idx → EReal) (ix2 k 0) := by
  after_results
  pointwise []

theorem after_v15 : (StableHlo.after opsB W (Proc.devRef .tc main_v15) : S1x1.Idx → EReal) (ix2 0 0)
    = (W (Proc.devRef .tc main_arg12) : S1.Idx → EReal) (ix1 0) := by
  after_results
  pointwise []

end After

/-! ## From the launch -/

variable (m : (ℓ : Loc nD τ sig) → Buf (Elt Ideal) ℓ) (d : Dev nD)

/-- An argument of the launch. -/
abbrev arg (b : Ref sig .tc) : Buf (Elt Ideal) ((d.tc : Thread nD τ).loc b) := m ((d.tc : Thread nD τ).loc b)

/-- Before the second operations the arguments are as at the launch. -/
theorem B2_keep (b : Ref sig .tc) (hA : b ∉ WA) (h2 : b ≠ main_v2) : B2 m d (Proc.devRef .tc b) = arg m d b :=
  (B2_other m d _ (StableHlo.devRef_ne_of_ne h2)).trans (B1_keep m d b hA)

/-- The gathered rows are the roots' rows of the table. -/
theorem rows_at (e : Fin 2000) (r : Fin 10000) (k : Fin 128) (hr : (arg m d main_arg2 : S2000.Idx → BitVec 32) (ix1 e) = BitVec.ofNat 32 r.val) :
    (B3 m d (Proc.devRef .tc main_v2) : S2048x128.Idx → EReal) (ix2 (pad e) k) = (arg m d main_arg0 : S10000x128.Idx → EReal) (ix2 r k) := by
  have h : B3 m d (Proc.devRef .tc main_v2) = outB (xb m) (ib m) d :=
    (StableHlo.after_of_writes_sub opsB _ opsB_writes (by decide)).trans (B2_v2 m d)
  have hi : ib m d (ix1 (pad e)) = BitVec.ofNat 32 r.val := by
    refine (ib_low m d (ix1 (pad e)) e.isLt).trans (Eq.trans (congrArg _ ?_) hr)
    funext a; fin_cases a; rfl
  rw [h]
  have hx : xb m d = arg m d main_arg0 := B1_keep m d main_arg0 (by decide)
  have hl : listIx (pad e) = ix1 (pad e) := by funext a; fin_cases a; rfl
  have hr' := r.isLt
  have ht : tabIx (ib m d (listIx (pad e))).toNat k = ix2 r k := by
    rw [hl, hi]
    funext a; apply Fin.ext
    fin_cases a
    · show (BitVec.ofNat 32 r.val).toNat % 10000 = r.val
      rw [BitVec.toNat_ofNat]; omega
    · rfl
  rw [← ht, ← hx]
  rfl

/-- The arrays the TensorCore call finds hold the layer's inputs, where the arguments do. -/
theorem found {L : Layer} (h : Holds L (arg m d main_arg0) (arg m d main_arg1) (arg m d main_arg2) (arg m d main_arg3) (arg m d main_arg4)) :
    Found (view (B3 m)) d L where
  adj e n := (after_v12 (B2 m d) e n).trans (by rw [B2_keep m d main_arg1 (by decide) (by decide)]; exact h.a n e)
  x n k := by
    show B3 m d (Proc.devRef .tc main_arg0) (ix2 n k) = _
    rw [B3_keep m d main_arg0 (by decide) (by decide) (by decide)]; exact h.x n k
  root e k := (rows_at m d e (L.rt e) k (h.r e)).trans (h.x _ k)
  w2 j k := by
    show B3 m d (Proc.devRef .tc main_arg3) (ix2 j k) = _
    rw [B3_keep m d main_arg3 (by decide) (by decide) (by decide)]; exact h.w2 j k
  w3 j k := by
    show B3 m d (Proc.devRef .tc main_arg4) (ix2 j k) = _
    rw [B3_keep m d main_arg4 (by decide) (by decide) (by decide)]; exact h.w3 j k
  eps := h.eps

end Cert.Proof.Val
-- ==== Proof.RefValue.lean ====
module

public import proofs.«01_k».proof.Proof.Gen.ReferenceIdeal.Read
public import proofs.«01_k».proof.Proof.Spec
public import Idealize.ShloMosaic.Lib.Routing.Ops

/-!
# What the reference computes

Each array of the reference, read at an index, as a value of the layer over the reals.
-/

@[expose] public section

noncomputable section

namespace Cert.Proof.Val

open Cert.ReferenceIdeal Cert.ReferenceIdeal.Gen Cert.ReferenceIdeal.Read Idealize.ShloMosaic

variable {L : Layer}
variable {x0 : (⟨S10000x128, .f32⟩ : BufTy).Contents (Elt Ideal)} {x1 : (⟨S10000x2000, .f32⟩ : BufTy).Contents (Elt Ideal)}
  {x2 : (⟨S2000, .i32⟩ : BufTy).Contents (Elt Ideal)} {x3 x4 : (⟨S128x128, .f32⟩ : BufTy).Contents (Elt Ideal)}
  {x5 x6 x7 x8 : (⟨S128, .f32⟩ : BufTy).Contents (Elt Ideal)} {x9 : (⟨S128x128, .f32⟩ : BufTy).Contents (Elt Ideal)}
  {x10 : (⟨S128, .f32⟩ : BufTy).Contents (Elt Ideal)} {x11 : (⟨S128x1, .f32⟩ : BufTy).Contents (Elt Ideal)}
  {x12 : (⟨S1, .f32⟩ : BufTy).Contents (Elt Ideal)}

/-- The largest entry of each row. -/
theorem max_rows {m n : Nat} (x : FVec Ideal ⟨2, ![m, n]⟩ .f32) (h' : (⟨2, ![m, n]⟩ : Shape).ReducesTo [1] (⟨1, ![m]⟩ : Shape))
    (h : (⟨2, ![m, n]⟩ : Shape).Reduces [1] (⟨1, ![m]⟩ : Shape)) (hu : 0 < S_.numel) (t : Fin m) :
    Host.reduce FloatOps.maximumf x (constant S_ .f32 0xFF800000#32) h' hu (ix1 t)
      = Finset.univ.fold max (⊥ : EReal) fun k : Fin n => x (ix2 t k) := by
  rw [Host.reduce_eq_fold_single FloatOps.maximumf x _ h' h hu, ← ofBits_bot]
  refine congrArg (fun f => Finset.fold max (Ideal.ofBits .f32 0xFF800000#32) f Finset.univ) (funext fun k => congrArg x ?_)
  funext c; apply Fin.ext
  fin_cases c <;> rfl

/-- A root index below the row count is read as it stands. -/
theorem root_read (h : Holds L x0 x1 x2 x3 x4) (e : Fin 2000) :
    val_main_v5 (F := Ideal) x2 (ix2 e 0) = BitVec.ofNat 32 (L.rt e).val := by
  have hi : x2 (ix1 e) = BitVec.ofNat 32 (L.rt e).val := h.r e
  have hlt : (L.rt e).val < 10000 := (L.rt e).isLt
  rw [val_main_v5_apply, val_main_v4_apply, val_main_v1_apply, val_main_v0_apply, val_main_c_apply]
  rw [show idx_main_v5 (ix2 e 0) = ix1 e from funext fun a => by fin_cases a; rfl, hi]
  have hc : IntOp.cmpi .slt (BitVec.ofNat 32 (L.rt e).val) 0#32 = 0#1 := by
    have : (BitVec.ofNat 32 (L.rt e).val).slt 0#32 = false := by
      rw [BitVec.slt_eq_decide, decide_eq_false_iff_not]
      have : (BitVec.ofNat 32 (L.rt e).val).toInt = (L.rt e).val := by
        rw [BitVec.toInt_eq_toNat_of_lt] <;> simp [BitVec.toNat_ofNat] <;> omega
      rw [this]; simp
    simp [IntOp.cmpi, this]
  rw [hc]; rfl

/-- The gathered rows are the roots' rows. -/
theorem ref_rows (h : Holds L x0 x1 x2 x3 x4) (e : Fin 2000) (c : Fin 128) :
    val_main_v6 (F := Ideal) x0 x2 (ix2 e c) = (L.x (L.rt e) c : EReal) := by
  rw [← h.x]
  exact Routing.gather_row gather_S10000x128_S2000x1_S2000x128_1_0_n_n_0_1_1128 rfl rfl rfl rfl rfl x0 (val_main_v5 (F := Ideal) x2) e c
    (L.rt e) (root_read h e) (by norm_num)

/-- The hyperedges before attention. -/
theorem ref_e0 (h : Holds L x0 x1 x2 x3 x4) (ok : L.Ok) (e : Fin 2000) (c : Fin 128) :
    val_main_v16 (F := Ideal) x0 x1 x2 (ix2 e c) = (L.e0 e c : EReal) := by
  pointwise [val_main_v16, val_main_v15, val_main_v14, val_main_v13, val_main_v12, val_main_cst_1, val_main_v11, val_main_v10,
    val_main_v9, val_main_v8, val_main_cst]
  simp only [h.x, h.a, h.eps, ref_rows h, ← EReal.coe_mul, ← coe_sum, ← EReal.coe_add, div_real _ (ok.deg_ne e)]
  rfl

/-- The masked scores. -/
theorem ref_sc (h : Holds L x0 x1 x2 x3 x4) (ok : L.Ok) (n : Fin 10000) (e : Fin 2000) :
    val_main_v22 (F := Ideal) x0 x1 x2 x3 x4 (ix2 n e) = if 0 < L.a n e then (L.sc n e : EReal) else ⊥ := by
  pointwise [val_main_v22, val_main_v21, val_main_v20, val_main_cst_2, val_main_v19, val_main_v18, val_main_v17, val_main_v7,
    val_main_call0_v1, val_main_call0_v0, val_main_cst_3]
  simp only [h.x, h.a, h.w2, h.w3, ref_e0 h ok, ← EReal.coe_mul, ← coe_sum, EReal.coe_pos]
  rw [← ofBits_bot]
  rfl

/-- The largest masked score of a hyperedge. -/
theorem ref_max_edge (e : Fin 2000) : val_main_v24 (F := Ideal) x0 x1 x2 x3 x4 (ix1 e)
    = Finset.univ.fold max (⊥ : EReal) fun n : Fin 10000 => val_main_v22 (F := Ideal) x0 x1 x2 x3 x4 (ix2 n e) := by
  refine (max_rows (val_main_v23 (F := Ideal) x0 x1 x2 x3 x4) _ (by decide) _ e).trans ?_
  refine congrArg (fun f => Finset.fold max (⊥ : EReal) f Finset.univ) (funext fun k => ?_)
  pointwise [val_main_v23]

/-- The exponential of a masked score of a hyperedge. -/
theorem ref_exp_edge (e : Fin 2000) (n : Fin 10000) : val_main_v30 (F := Ideal) x0 x1 x2 x3 x4 (ix2 e n)
    = Ideal.exp (val_main_v22 (F := Ideal) x0 x1 x2 x3 x4 (ix2 n e)
        - max ⊥ (Finset.univ.fold max (⊥ : EReal) fun n : Fin 10000 => val_main_v22 (F := Ideal) x0 x1 x2 x3 x4 (ix2 n e))) := by
  rw [← ref_max_edge, ← ofBits_bot, val_main_v30_apply, val_main_v29_apply, val_main_v28_apply, val_main_v27_apply, val_main_v26_apply,
    val_main_v25_apply, val_main_cst_5_apply,
    show idx_main_v27 (idx_main_v28 (ix2 e n)) = ix1 e from funext fun a => by fin_cases a; rfl]
  have ht : val_main_v23 (F := Ideal) x0 x1 x2 x3 x4 (ix2 e n) = val_main_v22 (F := Ideal) x0 x1 x2 x3 x4 (ix2 n e) := by
    pointwise [val_main_v23]
  rw [ht]
  generalize val_main_v24 (F := Ideal) x0 x1 x2 x3 x4 = w
  rfl

/-- The shares of the nodes in a hyperedge. -/
theorem ref_att_edge (h : Holds L x0 x1 x2 x3 x4) (ok : L.Ok) (n : Fin 10000) (e : Fin 2000) :
    val_main_v34 (F := Ideal) x0 x1 x2 x3 x4 (ix2 e n) = (share (fun n => L.sc n e) (fun n => L.a n e) n : EReal) := by
  rw [val_main_v34_apply, val_main_v33_apply, val_main_v32_apply, val_main_v31_apply, val_main_cst_6_apply]
  simp only [show ∀ k, idx_main_v31 (idx_main_v32 (idx_main_v33 (ix2 e n))) k = ix2 e k from
    fun k => funext fun a => by fin_cases a <;> rfl]
  have hd : ∀ (w : EReal) (f : Fin 10000 → EReal), FloatOps.hostDivf (F := Ideal) (φ := .f32) w (FloatOps.ofBits (F := Ideal) .f32 0#32 + ∑ k, f k) = Ideal.div w (∑ k, f k) :=
    fun w f => by rw [show FloatOps.ofBits (F := Ideal) .f32 0#32 = (0 : EReal) from Ideal.ofBits_zero_f32, zero_add]; rfl
  rw [hd]
  simp only [ref_exp_edge]
  exact softmax_masked _ _ (fun n => ok.bin n e) (ok.hedge e) _ (fun n => ref_sc h ok n e) n

/-- The attended hyperedge rows. -/
theorem ref_edge (h : Holds L x0 x1 x2 x3 x4) (ok : L.Ok) (e : Fin 2000) (c : Fin 128) :
    val_main_v35 (F := Ideal) x0 x1 x2 x3 x4 (ix2 e c) = (L.edge e c : EReal) := by
  pointwise [val_main_v35]
  simp only [ref_att_edge h ok, h.x, ← EReal.coe_mul, ← coe_sum]
  rw [sum_share]
  rfl

/-- The largest masked score of a node. -/
theorem ref_max_node (n : Fin 10000) : val_main_v36 (F := Ideal) x0 x1 x2 x3 x4 (ix1 n)
    = Finset.univ.fold max (⊥ : EReal) fun e : Fin 2000 => val_main_v22 (F := Ideal) x0 x1 x2 x3 x4 (ix2 n e) :=
  max_rows (val_main_v22 (F := Ideal) x0 x1 x2 x3 x4) _ (by decide) _ n

/-- The exponential of a masked score of a node. -/
theorem ref_exp_node (n : Fin 10000) (e : Fin 2000) : val_main_v42 (F := Ideal) x0 x1 x2 x3 x4 (ix2 n e)
    = Ideal.exp (val_main_v22 (F := Ideal) x0 x1 x2 x3 x4 (ix2 n e)
        - max ⊥ (Finset.univ.fold max (⊥ : EReal) fun e : Fin 2000 => val_main_v22 (F := Ideal) x0 x1 x2 x3 x4 (ix2 n e))) := by
  rw [← ref_max_node, ← ofBits_bot, val_main_v42_apply, val_main_v41_apply, val_main_v40_apply, val_main_v39_apply, val_main_v38_apply,
    val_main_v37_apply, val_main_cst_8_apply,
    show idx_main_v39 (idx_main_v40 (ix2 n e)) = ix1 n from funext fun a => by fin_cases a; rfl]
  generalize val_main_v36 (F := Ideal) x0 x1 x2 x3 x4 = w
  generalize val_main_v22 (F := Ideal) x0 x1 x2 x3 x4 = z
  rfl

/-- The shares of the hyperedges in a node. -/
theorem ref_att_node (h : Holds L x0 x1 x2 x3 x4) (ok : L.Ok) (n : Fin 10000) (e : Fin 2000) :
    val_main_v46 (F := Ideal) x0 x1 x2 x3 x4 (ix2 n e) = (share (fun e => L.sc n e) (fun e => L.a n e) e : EReal) := by
  rw [val_main_v46_apply, val_main_v45_apply, val_main_v44_apply, val_main_v43_apply, val_main_cst_9_apply]
  simp only [show ∀ k, idx_main_v43 (idx_main_v44 (idx_main_v45 (ix2 n e))) k = ix2 n k from
    fun k => funext fun a => by fin_cases a <;> rfl]
  have hd : ∀ (w : EReal) (f : Fin 2000 → EReal), FloatOps.hostDivf (F := Ideal) (φ := .f32) w (FloatOps.ofBits (F := Ideal) .f32 0#32 + ∑ k, f k) = Ideal.div w (∑ k, f k) :=
    fun w f => by rw [show FloatOps.ofBits (F := Ideal) .f32 0#32 = (0 : EReal) from Ideal.ofBits_zero_f32, zero_add]; rfl
  rw [hd]
  simp only [ref_exp_node]
  exact softmax_masked _ _ (fun e => ok.bin n e) (ok.node n) _ (fun e => ref_sc h ok n e) e

/-- The attended node rows. -/
theorem ref_node (h : Holds L x0 x1 x2 x3 x4) (ok : L.Ok) (n : Fin 10000) (c : Fin 128) :
    val_main_v47 (F := Ideal) x0 x1 x2 x3 x4 (ix2 n c) = (L.node n c : EReal) := by
  pointwise [val_main_v47]
  simp only [ref_att_node h ok, ref_edge h ok, ← EReal.coe_mul, ← coe_sum]
  rw [sum_share]
  rfl

/-- The reference's second result. -/
theorem ref_edge_out (h : Holds L x0 x1 x2 x3 x4) (ok : L.Ok) (e : Fin 2000) (c : Fin 128) :
    val_main_v79 (F := Ideal) x0 x1 x2 x3 x4 x5 x6 x7 x8 (ix2 e c) = norm x5 x6 x7 x8 (elu (L.edge e c)) c := by
  have he : val_main_v49 (F := Ideal) x0 x1 x2 x3 x4 (ix2 e c) = (elu (L.edge e c) : EReal) := by
    pointwise [val_main_v49, val_main_call2_v7, val_main_call2_v6, val_main_call2_cst_2, val_main_call2_v5, val_main_call2_v4,
      val_main_call2_call0_v1, val_main_call2_call0_v0, val_main_call2_cst_1, val_main_call2_v3, val_main_call2_v2,
      val_main_call2_cst_0, val_main_call2_v1, val_main_call2_v0, val_main_call2_cst]
    rw [ref_edge h ok, ← elu_guarded, ← Ideal.ofBits_zero_f32]
    rfl
  pointwise [val_main_v79, val_main_v78, val_main_v77, val_main_v76, val_main_v75, val_main_v74, val_main_v73, val_main_v72,
    val_main_v71, val_main_v70, val_main_v69, val_main_v68, val_main_cst_11, val_main_v67, val_main_v66, val_main_v65]
  rw [he]
  rfl

/-- The normalised node rows. -/
theorem ref_node_out (h : Holds L x0 x1 x2 x3 x4) (ok : L.Ok) (n : Fin 10000) (c : Fin 128) :
    val_main_v64 (F := Ideal) x0 x1 x2 x3 x4 x5 x6 x7 x8 (ix2 n c) = norm x5 x6 x7 x8 (elu (L.node n c)) c := by
  have he : val_main_v48 (F := Ideal) x0 x1 x2 x3 x4 (ix2 n c) = (elu (L.node n c) : EReal) := by
    pointwise [val_main_v48, val_main_call1_v7, val_main_call1_v6, val_main_call1_cst_2, val_main_call1_v5, val_main_call1_v4,
      val_main_call1_call0_v1, val_main_call1_call0_v0, val_main_call1_cst_1, val_main_call1_v3, val_main_call1_v2,
      val_main_call1_cst_0, val_main_call1_v1, val_main_call1_v0, val_main_call1_cst]
    rw [ref_node h ok, ← elu_guarded, ← Ideal.ofBits_zero_f32]
    rfl
  pointwise [val_main_v64, val_main_v63, val_main_v62, val_main_v61, val_main_v60, val_main_v59, val_main_v58, val_main_v57,
    val_main_v56, val_main_v55, val_main_v54, val_main_v53, val_main_cst_10, val_main_v52, val_main_v51, val_main_v50]
  rw [he]
  rfl

/-- The reference's first result. -/
theorem ref_node_fused (h : Holds L x0 x1 x2 x3 x4) (ok : L.Ok) (n : Fin 10000) (c : Fin 128) :
    val_main_v105 (F := Ideal) x0 x1 x2 x3 x4 x5 x6 x7 x8 x9 x10 x11 x12 (ix2 n c)
      = mix (score x9 x10 x11 x12 fun d => (L.x n d : EReal)) (score x9 x10 x11 x12 fun d => norm x5 x6 x7 x8 (elu (L.node n d)) d)
          (L.x n c : EReal) (norm x5 x6 x7 x8 (elu (L.node n c)) c) := by
  have h0 : ∀ d, val_main_v82 (F := Ideal) x0 x1 x2 x3 x4 x5 x6 x7 x8 (ix3 0 n d) = (L.x n d : EReal) := fun d => by
    pointwise [val_main_v82, val_main_v80, val_main_v81]
    exact h.x n d
  have h1 : ∀ d, val_main_v82 (F := Ideal) x0 x1 x2 x3 x4 x5 x6 x7 x8 (ix3 1 n d) = norm x5 x6 x7 x8 (elu (L.node n d)) d := fun d => by
    pointwise [val_main_v82, val_main_v80, val_main_v81]
    exact ref_node_out h ok n d
  have hs : ∀ b : Fin 2, val_main_v91 (F := Ideal) x0 x1 x2 x3 x4 x5 x6 x7 x8 x9 x10 x11 x12 (ix3 b n 0)
      = score x9 x10 x11 x12 fun d => val_main_v82 (F := Ideal) x0 x1 x2 x3 x4 x5 x6 x7 x8 (ix3 b n d) := fun b => by
    pointwise [val_main_v91, val_main_v90, val_main_v89, val_main_v88, val_main_v87, val_main_v86, val_main_v85, val_main_v84,
      val_main_v83]
    rfl
  pointwise [val_main_v105, val_main_cst_15, val_main_v104, val_main_v103, val_main_v102, val_main_v101, val_main_v100, val_main_v99,
    val_main_cst_14, val_main_v98, val_main_v97, val_main_v96, val_main_v95, val_main_v94, val_main_v93, val_main_cst_13,
    val_main_v92, val_main_cst_12]
  rw [show Ideal.ofBits .f32 4286578688#32 = ⊥ from ofBits_bot]
  have hf : ∀ f : Fin 2 → EReal, max ⊥ (Finset.univ.fold max (⊥ : EReal) f) = max (f 0) (f 1) := fun f => by
    rw [Fin.univ_succ]; simp
  rw [hf]
  simp only [Fin.sum_univ_two, hs, h0, h1]
  rfl

end Cert.Proof.Val
-- ==== Proof.Value.lean ====
module

public import proofs.«01_k».proof.Proof.PreRead
public import proofs.«01_k».proof.Proof.Host
public import proofs.«01_k».proof.Proof.RefValue
public import proofs.«01_k».proof.Proof.Gen.ReferenceIdeal.Run

/-!
# The values agree

The kernel's two results and the reference's are one function of the arguments.
-/

@[expose] public section

set_option maxRecDepth 16384

noncomputable section

namespace Cert.Proof.Val

open Cert.KernelIdeal Cert.KernelIdeal.Gen Idealize.ShloMosaic Idealize.ShloMosaic.TcCoe
open Cert.Proof.Sc Cert.Proof.Run

/-! ## The reading of the precondition at the launch -/

/-- The arguments of the launch are as the value claim assumes. -/
abbrev Good (m : (ℓ : Loc nD τ sig) → Buf (Elt Ideal) ℓ) (d : Dev nD) : Prop :=
  Given (arg m d main_arg0) (arg m d main_arg1) (arg m d main_arg2) (arg m d main_arg3) (arg m d main_arg4) (arg m d main_arg5)
    (arg m d main_arg8) (arg m d main_arg11) (arg m d main_arg12)

theorem good {m : (ℓ : Loc nD τ sig) → Buf (Elt Ideal) ℓ} (hp : Cert.Pre_KernelIdeal_incidence m) (d : Dev nD) : Good m d :=
  given _ _ _ _ _ _ _ _ _ _ _ _ _ (hp d)

theorem inTab_good {m : (ℓ : Loc nD τ sig) → Buf (Elt Ideal) ℓ} (h : ∀ d, Good m d) : InTab (ib m) :=
  inTab_of m fun d j => by
    have hj : j = ix1 (j 0) := by funext a; fin_cases a; rfl
    rw [hj]; exact (h d).row (j 0)

theorem frame_kernelIdeal_incidence : Cert.quiescent_KernelIdeal_pre_incidence := fun m ρ hp =>
  ends (F := Ideal) m ρ (inTab_good (good hp))

theorem frame_reference_incidence : Cert.quiescent_ReferenceIdeal_pre_incidence := fun m ρ _ =>
  (θ_run Cert.ReferenceIdeal.defs _ _).mono (fun _ h => ⟨fun c => (h c).2.2, sem_eq_zero_of_no_sems (by decide) _⟩)
    (Cert.ReferenceIdeal.Value.run (F := Ideal) m ρ)

/-! ## The kernel's results in the reference's form -/

section Kernel

variable (m : (ℓ : Loc nD τ sig) → Buf (Elt Ideal) ℓ) (d : Dev nD)

theorem vec_arg (b : Ref sig .tc) (h : (Proc.devRef (τ := τ) .tc b).ty = ⟨S128, .f32⟩) (hA : b ∉ WA) (h2 : b ≠ main_v2) (k : Fin 128) :
    vec (B2 m d) b h k = (h ▸ arg m d b : (⟨S128, .f32⟩ : BufTy).Contents (Elt Ideal)) (ix1 k) := by
  unfold vec
  rw [B2_keep m d b hA h2]

/-- The kernel's scale and shift are the normalisation. -/
theorem affine_norm (h : Good m d) (r : ℝ) (k : Fin 128) :
    affine (view (B3 m)) d r k = norm (arg m d main_arg5) (arg m d main_arg6) (arg m d main_arg7) (arg m d main_arg8) r k := by
  have e7 := after_v7 (B2 m d) k
  have e11 := after_v11 (B2 m d) k
  simp only [vec_arg m d main_arg5 rfl (by decide) (by decide), vec_arg m d main_arg6 rfl (by decide) (by decide),
    vec_arg m d main_arg7 rfl (by decide) (by decide), vec_arg m d main_arg8 rfl (by decide) (by decide)] at e7 e11
  have hg := h.g k
  have hn := norm_eq r (arg m d main_arg5 (ix1 k) : EReal).toReal (arg m d main_arg7 (ix1 k)) (arg m d main_arg6 (ix1 k)) (h.w k)
  rw [← hg] at hn
  refine Eq.trans ?_ hn.symm
  exact congrArg₂ (fun p q : EReal => (r : EReal) * p + q) e7 e11

/-- The kernel's score of a row is the reference's. -/
theorem kscore_score (v : Fin 128 → EReal) :
    kscore (view (B3 m) d main_arg9) (view (B3 m) d main_v13) (view (B3 m) d main_v14) (view (B3 m) d main_v15) v
      = score (arg m d main_arg9) (arg m d main_arg10) (arg m d main_arg11) (arg m d main_arg12) v := by
  have e9 : view (B3 m) d main_arg9 = arg m d main_arg9 := B3_keep m d main_arg9 (by decide) (by decide) (by decide)
  have e13 (k : Fin 128) : (view (B3 m) d main_v13 : S1x128.Idx → EReal) (ix2 0 k) = (arg m d main_arg10 : S128.Idx → EReal) (ix1 k) :=
    (after_v13 (B2 m d) k).trans (by rw [B2_keep m d main_arg10 (by decide) (by decide)])
  have e14 (k : Fin 128) : (view (B3 m) d main_v14 : S1x128.Idx → EReal) (ix2 0 k) = (arg m d main_arg11 : S128x1.Idx → EReal) (ix2 k 0) :=
    (after_v14 (B2 m d) k).trans (by rw [B2_keep m d main_arg11 (by decide) (by decide)])
  have e15 : (view (B3 m) d main_v15 : S1x1.Idx → EReal) (ix2 0 0) = (arg m d main_arg12 : S1.Idx → EReal) (ix1 0) :=
    (after_v15 (B2 m d)).trans (by rw [B2_keep m d main_arg12 (by decide) (by decide)])
  unfold kscore score
  rw [e9]
  exact congrArg₂ (· + ·) (Finset.sum_congr rfl fun k _ => congrArg₂ (· * ·) (congrArg Ideal.tanh (congrArg₂ (· + ·) rfl (e13 k))) (e14 k)) e15

theorem score_coe (h : Good m d) (v : Fin 128 → EReal) :
    ∃ p : ℝ, score (arg m d main_arg9) (arg m d main_arg10) (arg m d main_arg11) (arg m d main_arg12) v = (p : EReal) :=
  score_real _ _ _ (fun k => ⟨_, h.f2 k⟩) ⟨_, h.b2⟩

open Cert.ReferenceIdeal.Read in
/-- The second result. -/
theorem edge_value (h : Good m d) : fin m d (Proc.devRef .tc main_v16_0)
    = val_main_v79 (F := Ideal) (arg m d main_arg0) (arg m d main_arg1) (arg m d main_arg2) (arg m d main_arg3) (arg m d main_arg4)
      (arg m d main_arg5) (arg m d main_arg6) (arg m d main_arg7) (arg m d main_arg8) := by
  obtain ⟨L, ok, hL⟩ := h.layer
  refine (afterTc_edge (B3 m) d).trans ((edge_arr (found m d hL) ok).trans (funext fun j => ?_))
  obtain ⟨e, k, rfl⟩ : ∃ (e : Fin 2000) (k : Fin 128), j = ix2 e k := ⟨j 0, j 1, by funext a; fin_cases a <;> rfl⟩
  exact (affine_norm m d h (elu (L.edge e k)) k).trans (ref_edge_out hL ok e k).symm

open Cert.ReferenceIdeal.Read in
/-- The first result. -/
theorem node_value (h : Good m d) : fin m d (Proc.devRef .tc main_v16_1)
    = val_main_v105 (F := Ideal) (arg m d main_arg0) (arg m d main_arg1) (arg m d main_arg2) (arg m d main_arg3) (arg m d main_arg4)
      (arg m d main_arg5) (arg m d main_arg6) (arg m d main_arg7) (arg m d main_arg8) (arg m d main_arg9) (arg m d main_arg10)
      (arg m d main_arg11) (arg m d main_arg12) := by
  obtain ⟨L, ok, hL⟩ := h.layer
  refine (afterTc_node (B3 m) d).trans ((node_arr (found m d hL) ok).trans (funext fun j => ?_))
  obtain ⟨n, c, rfl⟩ : ∃ (n : Fin 10000) (c : Fin 128), j = ix2 n c := ⟨j 0, j 1, by funext a; fin_cases a <;> rfl⟩
  show mixOnce (kscore (view (B3 m) d main_arg9) (view (B3 m) d main_v13) (view (B3 m) d main_v14) (view (B3 m) d main_v15) fun k => (L.x n k : EReal))
    (kscore (view (B3 m) d main_arg9) (view (B3 m) d main_v13) (view (B3 m) d main_v14) (view (B3 m) d main_v15)
      fun k => affine (view (B3 m)) d (elu (L.node n k)) k) (L.x n c : EReal) (affine (view (B3 m)) d (elu (L.node n c)) c) = _
  simp only [affine_norm m d h]
  obtain ⟨p, hp⟩ := score_coe m d h fun k => (L.x n k : EReal)
  obtain ⟨q, hq⟩ := score_coe m d h fun k => norm (arg m d main_arg5) (arg m d main_arg6) (arg m d main_arg7) (arg m d main_arg8) (elu (L.node n k)) k
  have hr := ref_node_fused (x5 := arg m d main_arg5) (x6 := arg m d main_arg6) (x7 := arg m d main_arg7) (x8 := arg m d main_arg8)
    (x9 := arg m d main_arg9) (x10 := arg m d main_arg10) (x11 := arg m d main_arg11) (x12 := arg m d main_arg12) hL ok n c
  rw [hp, hq] at hr
  refine Eq.trans (congrArg₂ (fun s t : EReal => mixOnce s t _ _) ((kscore_score m d _).trans hp) ((kscore_score m d _).trans hq)) ?_
  exact (mix_eq _ _ _ _).trans hr.symm

end Kernel

/-! ## The claim -/

theorem algebraic : Cert.algebraic_KernelIdeal_ReferenceIdeal_pre_incidence := fun m g m' g' hp hag => by
  have hG := good hp
  refine ⟨fun d => fin m d (Proc.devRef .tc main_v16_1), fun d => fin m d (Proc.devRef .tc main_v16_0), ?_, ?_⟩
  · exact (θ_run Cert.KernelIdeal.defs _ _).mono (fun r h d => ⟨QC.at m h d main_v16_1, QC.at m h d main_v16_0, QC.args m h d⟩)
      (run_main m g (inTab_good hG))
  · refine (θ_run Cert.ReferenceIdeal.defs _ _).mono (fun r h d => ?_) (Cert.ReferenceIdeal.Value.run (F := Ideal) m' g')
    obtain ⟨a0, a1, a2, a3, a4, a5, a6, a7, a8, a9, a10, a11, a12⟩ := hag d
    have hn := Cert.ReferenceIdeal.Read.val_main_v105_eq (F := Ideal) (StableHlo.launchContents m' d)
    have he := Cert.ReferenceIdeal.Read.val_main_v79_eq (F := Ideal) (StableHlo.launchContents m' d)
    have l0 : StableHlo.launchContents m' d (Proc.devRef .tc Cert.ReferenceIdeal.main_arg0) = arg m d main_arg0 := a0
    have l1 : StableHlo.launchContents m' d (Proc.devRef .tc Cert.ReferenceIdeal.main_arg1) = arg m d main_arg1 := a1
    have l2 : StableHlo.launchContents m' d (Proc.devRef .tc Cert.ReferenceIdeal.main_arg2) = arg m d main_arg2 := a2
    have l3 : StableHlo.launchContents m' d (Proc.devRef .tc Cert.ReferenceIdeal.main_arg3) = arg m d main_arg3 := a3
    have l4 : StableHlo.launchContents m' d (Proc.devRef .tc Cert.ReferenceIdeal.main_arg4) = arg m d main_arg4 := a4
    have l5 : StableHlo.launchContents m' d (Proc.devRef .tc Cert.ReferenceIdeal.main_arg5) = arg m d main_arg5 := a5
    have l6 : StableHlo.launchContents m' d (Proc.devRef .tc Cert.ReferenceIdeal.main_arg6) = arg m d main_arg6 := a6
    have l7 : StableHlo.launchContents m' d (Proc.devRef .tc Cert.ReferenceIdeal.main_arg7) = arg m d main_arg7 := a7
    have l8 : StableHlo.launchContents m' d (Proc.devRef .tc Cert.ReferenceIdeal.main_arg8) = arg m d main_arg8 := a8
    have l9 : StableHlo.launchContents m' d (Proc.devRef .tc Cert.ReferenceIdeal.main_arg9) = arg m d main_arg9 := a9
    have l10 : StableHlo.launchContents m' d (Proc.devRef .tc Cert.ReferenceIdeal.main_arg10) = arg m d main_arg10 := a10
    have l11 : StableHlo.launchContents m' d (Proc.devRef .tc Cert.ReferenceIdeal.main_arg11) = arg m d main_arg11 := a11
    have l12 : StableHlo.launchContents m' d (Proc.devRef .tc Cert.ReferenceIdeal.main_arg12) = arg m d main_arg12 := a12
    refine ⟨((h d).1.trans hn).trans (Eq.trans ?_ (node_value m d (hG d)).symm),
      ((h d).2.1.trans he).trans (Eq.trans ?_ (edge_value m d (hG d)).symm), (h d).2.2⟩
    · rw [l0, l1, l2, l3, l4, l5, l6, l7, l8, l9, l10, l11, l12]
    · rw [l0, l1, l2, l3, l4, l5, l6, l7, l8]

end Cert.Proof.Val
-- ==== Proof.lean ====
/-
  The proof of `Cert.Claim`: the frames of the program, of its reading at the ideal instance and of the reference, that
  the second keeps the first, and that the second and the reference return the same values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_root_in_rows
public import proofs.«01_k».proof.Proof.Gen.Pre_incidence
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_root_in_rows.Gen.facts, Cert.Pre_incidence.Gen.facts,
    Run.frame_kernel, Run.frame_kernelIdeal, Val.frame_kernelIdeal_incidence, Run.frame_reference, Val.frame_reference_incidence, trivial, Val.algebraic⟩

end Cert.Proof

end
